-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![8192, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S21x256x128 : Shape := ⟨3, ![21, 256, 128]⟩
abbrev S21 : Shape := ⟨1, ![21]⟩
abbrev S_ : Shape := ⟨0, ![]⟩
abbrev S128x1x1 : Shape := ⟨3, ![128, 1, 1]⟩
abbrev S128x2x1x128 : Shape := ⟨4, ![128, 2, 1, 128]⟩
abbrev S128x1x1x128 : Shape := ⟨4, ![128, 1, 1, 128]⟩
abbrev S128x1x128 : Shape := ⟨3, ![128, 1, 128]⟩
abbrev S64x1x1 : Shape := ⟨3, ![64, 1, 1]⟩
abbrev S64x2x2x128 : Shape := ⟨4, ![64, 2, 2, 128]⟩
abbrev S64x1x2x128 : Shape := ⟨4, ![64, 1, 2, 128]⟩
abbrev S64x2x128 : Shape := ⟨3, ![64, 2, 128]⟩
abbrev S32x1x1 : Shape := ⟨3, ![32, 1, 1]⟩
abbrev S32x2x4x128 : Shape := ⟨4, ![32, 2, 4, 128]⟩
abbrev S32x1x4x128 : Shape := ⟨4, ![32, 1, 4, 128]⟩
abbrev S32x4x128 : Shape := ⟨3, ![32, 4, 128]⟩
abbrev S16x1x1 : Shape := ⟨3, ![16, 1, 1]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S8x1x1 : Shape := ⟨3, ![8, 1, 1]⟩
abbrev S8x2x16x128 : Shape := ⟨4, ![8, 2, 16, 128]⟩
abbrev S8x1x16x128 : Shape := ⟨4, ![8, 1, 16, 128]⟩
abbrev S8x16x128 : Shape := ⟨3, ![8, 16, 128]⟩
abbrev S4x1x1 : Shape := ⟨3, ![4, 1, 1]⟩
abbrev S4x2x32x128 : Shape := ⟨4, ![4, 2, 32, 128]⟩
abbrev S4x1x32x128 : Shape := ⟨4, ![4, 1, 32, 128]⟩
abbrev S4x32x128 : Shape := ⟨3, ![4, 32, 128]⟩
abbrev S2x1x1 : Shape := ⟨3, ![2, 1, 1]⟩
abbrev S2x2x64x128 : Shape := ⟨4, ![2, 2, 64, 128]⟩
abbrev S2x1x64x128 : Shape := ⟨4, ![2, 1, 64, 128]⟩
abbrev S2x64x128 : Shape := ⟨3, ![2, 64, 128]⟩
abbrev S1x2x128x128 : Shape := ⟨4, ![1, 2, 128, 128]⟩
abbrev S1x1x128x128 : Shape := ⟨4, ![1, 1, 128, 128]⟩
abbrev S1x128x128 : Shape := ⟨3, ![1, 128, 128]⟩
abbrev S1 : Shape := ⟨1, ![1]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S256x128, .bf16⟩
  | .hbm, ⟨1, _⟩ => ⟨S256x128, .f32⟩
  | .local _ .vmem, ⟨0, _⟩ => ⟨S256x128, .bf16⟩
  | .local _ .vmem, ⟨1, _⟩ => ⟨S256x128, .f32⟩
  | .local _ .vmem, ⟨2, _⟩ => ⟨S256x128, .bf16⟩
  | .local _ .vmem, ⟨3, _⟩ => ⟨S21x256x128, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v16 : BitVec 32 := Scalar.xori v2 c6_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v19 : BitVec 32 := Scalar.xori v2 c8_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v22 : BitVec 32 := Scalar.xori v2 c12_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v25 : BitVec 32 := Scalar.xori v2 c16_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v28 : BitVec 32 := Scalar.xori v2 c24_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_469 : BitVec 32 := 1#32
  let v1917 : BitVec 32 := Scalar.xori v2 c1_i32_469
  let c1_i32_473 : BitVec 32 := 1#32
  let v1918 : BitVec 32 := Scalar.muli v1917 c1_i32_473
  let v1919 : BitVec 32 := Scalar.addi c0_i32_474 v1918
  v1919.toNat
def k0_dev11 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_518 : BitVec 32 := 1#32
  let v2087 : BitVec 32 := Scalar.xori v2 c1_i32_518
  let c1_i32_522 : BitVec 32 := 1#32
  let v2088 : BitVec 32 := Scalar.muli v2087 c1_i32_522
  let v2089 : BitVec 32 := Scalar.addi c0_i32_523 v2088
  v2089.toNat
def k0_dev12 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_526 : BitVec 32 := 2#32
  let v2096 : BitVec 32 := Scalar.xori v2 c2_i32_526
  let c1_i32_530 : BitVec 32 := 1#32
  let v2097 : BitVec 32 := Scalar.muli v2096 c1_i32_530
  let v2098 : BitVec 32 := Scalar.addi c0_i32_531 v2097
  v2098.toNat
def k0_dev13 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_534 : BitVec 32 := 3#32
  let v2105 : BitVec 32 := Scalar.xori v2 c3_i32_534
  let c1_i32_538 : BitVec 32 := 1#32
  let v2106 : BitVec 32 := Scalar.muli v2105 c1_i32_538
  let v2107 : BitVec 32 := Scalar.addi c0_i32_539 v2106
  v2107.toNat
def k0_dev14 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_615 : BitVec 32 := 2#32
  let v2309 : BitVec 32 := Scalar.xori v2 c2_i32_615
  let c1_i32_619 : BitVec 32 := 1#32
  let v2310 : BitVec 32 := Scalar.muli v2309 c1_i32_619
  let v2311 : BitVec 32 := Scalar.addi c0_i32_620 v2310
  v2311.toNat
def k0_dev15 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_623 : BitVec 32 := 4#32
  let v2318 : BitVec 32 := Scalar.xori v2 c4_i32_623
  let c1_i32_626 : BitVec 32 := 1#32
  let v2319 : BitVec 32 := Scalar.muli v2318 c1_i32_626
  let v2320 : BitVec 32 := Scalar.addi c0_i32_627 v2319
  v2320.toNat
def k0_dev16 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_630 : BitVec 32 := 6#32
  let v2327 : BitVec 32 := Scalar.xori v2 c6_i32_630
  let c1_i32_634 : BitVec 32 := 1#32
  let v2328 : BitVec 32 := Scalar.muli v2327 c1_i32_634
  let v2329 : BitVec 32 := Scalar.addi c0_i32_635 v2328
  v2329.toNat
def k0_dev17 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_707 : BitVec 32 := 1#32
  let v2421 : BitVec 32 := Scalar.xori v2 c1_i32_707
  let c1_i32_710 : BitVec 32 := 1#32
  let v2422 : BitVec 32 := Scalar.muli v2421 c1_i32_710
  let v2423 : BitVec 32 := Scalar.addi c0_i32_711 v2422
  v2423.toNat
def k0_dev18 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_754 : BitVec 32 := 4#32
  let v2591 : BitVec 32 := Scalar.xori v2 c4_i32_754
  let c1_i32_758 : BitVec 32 := 1#32
  let v2592 : BitVec 32 := Scalar.muli v2591 c1_i32_758
  let v2593 : BitVec 32 := Scalar.addi c0_i32_759 v2592
  v2593.toNat
def k0_dev19 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_762 : BitVec 32 := 8#32
  let v2600 : BitVec 32 := Scalar.xori v2 c8_i32_762
  let c1_i32_766 : BitVec 32 := 1#32
  let v2601 : BitVec 32 := Scalar.muli v2600 c1_i32_766
  let v2602 : BitVec 32 := Scalar.addi c0_i32_767 v2601
  v2602.toNat
def k0_dev20 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_770 : BitVec 32 := 12#32
  let v2609 : BitVec 32 := Scalar.xori v2 c12_i32_770
  let c1_i32_773 : BitVec 32 := 1#32
  let v2610 : BitVec 32 := Scalar.muli v2609 c1_i32_773
  let v2611 : BitVec 32 := Scalar.addi c0_i32_774 v2610
  v2611.toNat
def k0_dev21 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_846 : BitVec 32 := 1#32
  let v2703 : BitVec 32 := Scalar.xori v2 c1_i32_846
  let c1_i32_849 : BitVec 32 := 1#32
  let v2704 : BitVec 32 := Scalar.muli v2703 c1_i32_849
  let v2705 : BitVec 32 := Scalar.addi c0_i32_850 v2704
  v2705.toNat
def k0_dev22 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_853 : BitVec 32 := 2#32
  let v2712 : BitVec 32 := Scalar.xori v2 c2_i32_853
  let c1_i32_857 : BitVec 32 := 1#32
  let v2713 : BitVec 32 := Scalar.muli v2712 c1_i32_857
  let v2714 : BitVec 32 := Scalar.addi c0_i32_858 v2713
  v2714.toNat
def k0_dev23 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_861 : BitVec 32 := 3#32
  let v2721 : BitVec 32 := Scalar.xori v2 c3_i32_861
  let c1_i32_864 : BitVec 32 := 1#32
  let v2722 : BitVec 32 := Scalar.muli v2721 c1_i32_864
  let v2723 : BitVec 32 := Scalar.addi c0_i32_865 v2722
  v2723.toNat
def k0_dev24 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_941 : BitVec 32 := 8#32
  let v2925 : BitVec 32 := Scalar.xori v2 c8_i32_941
  let c1_i32_944 : BitVec 32 := 1#32
  let v2926 : BitVec 32 := Scalar.muli v2925 c1_i32_944
  let v2927 : BitVec 32 := Scalar.addi c0_i32_945 v2926
  v2927.toNat
def k0_dev25 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_948 : BitVec 32 := 16#32
  let v2934 : BitVec 32 := Scalar.xori v2 c16_i32_948
  let c1_i32_951 : BitVec 32 := 1#32
  let v2935 : BitVec 32 := Scalar.muli v2934 c1_i32_951
  let v2936 : BitVec 32 := Scalar.addi c0_i32_952 v2935
  v2936.toNat
def k0_dev26 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_955 : BitVec 32 := 24#32
  let v2943 : BitVec 32 := Scalar.xori v2 c24_i32_955
  let c1_i32_959 : BitVec 32 := 1#32
  let v2944 : BitVec 32 := Scalar.muli v2943 c1_i32_959
  let v2945 : BitVec 32 := Scalar.addi c0_i32_960 v2944
  v2945.toNat
def k0_dev27 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1032 : BitVec 32 := 2#32
  let v3037 : BitVec 32 := Scalar.xori v2 c2_i32_1032
  let c1_i32_1035 : BitVec 32 := 1#32
  let v3038 : BitVec 32 := Scalar.muli v3037 c1_i32_1035
  let v3039 : BitVec 32 := Scalar.addi c0_i32_1036 v3038
  v3039.toNat
def k0_dev28 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1039 : BitVec 32 := 4#32
  let v3046 : BitVec 32 := Scalar.xori v2 c4_i32_1039
  let c1_i32_1042 : BitVec 32 := 1#32
  let v3047 : BitVec 32 := Scalar.muli v3046 c1_i32_1042
  let v3048 : BitVec 32 := Scalar.addi c0_i32_1043 v3047
  v3048.toNat
def k0_dev29 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1046 : BitVec 32 := 6#32
  let v3055 : BitVec 32 := Scalar.xori v2 c6_i32_1046
  let c1_i32_1049 : BitVec 32 := 1#32
  let v3056 : BitVec 32 := Scalar.muli v3055 c1_i32_1049
  let v3057 : BitVec 32 := Scalar.addi c0_i32_1050 v3056
  v3057.toNat
def k0_dev30 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1122 : BitVec 32 := 1#32
  let v3149 : BitVec 32 := Scalar.xori v2 c1_i32_1122
  let c1_i32_1125 : BitVec 32 := 1#32
  let v3150 : BitVec 32 := Scalar.muli v3149 c1_i32_1125
  let v3151 : BitVec 32 := Scalar.addi c0_i32_1126 v3150
  v3151.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x128, .f32⟩
  | .hbm, ⟨2, _⟩ => ⟨S8192x128, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Ops.lean ====
module

public import proofs.«01_k».proof.Proof.Gen.KernelIdeal.Skeleton

@[expose] public section

/-! # The kernel's operations and its program, named

The printed body is a long list of statements over numbered values. Here the same operations have
names: one compare-exchange of a block, the direction bits, the mixing of received blocks, and the
program of the sort as a sequence of rounds. -/

noncomputable section

namespace Cert.Proof

open Idealize.ShloMosaic Idealize.SL.Sem
open Cert.KernelIdeal Cert.KernelIdeal.Gen

variable {F : FTy → Type} [FloatOps F]

/-! ## Direction bits -/

/-- The floor quotient of two words. -/
def fdivW (x k : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt k 0#32)) (Scalar.extui (Scalar.cmpi .slt k 0#32))))
      (Scalar.cmpi .ne (Scalar.remsi x k) 0#32))
    (Scalar.subi (Scalar.divsi x k) 1#32) (Scalar.divsi x k)

/-- The divisor two, as the printed remainder guards it. -/
def twoW : BitVec 32 := Scalar.select (Scalar.cmpi .eq 2#32 0#32) 1#32 2#32

/-- Whether a word is even, by the floor remainder. -/
def evenW (x : BitVec 32) : BitVec 1 :=
  Scalar.cmpi .eq
    (Scalar.select
      (Scalar.andi
        (Scalar.xori (Scalar.cmpi .slt (Scalar.remsi x twoW) 0#32) (Scalar.cmpi .slt twoW 0#32))
        (Scalar.cmpi .ne (Scalar.remsi x twoW) 0#32))
      (Scalar.addi (Scalar.remsi x twoW) twoW) (Scalar.remsi x twoW)) 0#32

/-- A column of `b` words, one for each group of rows. -/
abbrev S3 (b : ℕ) : Shape := ⟨3, ![b, 1, 1]⟩

/-- The side conditions of the row-group numbers. -/
structure MaskOk (b : ℕ) : Prop where
  io : (S3 b).Iotas .tc 32 [0]
  bc : (S3 b).Broadcasts (S3 b)

/-- The first row of each group of `2 * d` rows. -/
def rowV (b : ℕ) (w : BitVec 32) (h : MaskOk b) : IVec (S3 b) 32 :=
  muli (iota .tc (S3 b) 32 [0] h.io) (broadcast (S3 b) w)

/-- The floor quotient of a vector by a word. -/
def fdivV {s : Shape} (x : IVec s 32) (k : BitVec 32) : IVec s 32 :=
  select
    (andi
      (cmpi .ne
        (subi (extui 32 (cmpi .sgt x (broadcast s 0#32)) natLt_1_32)
          (extui 32 (cmpi .slt x (broadcast s 0#32)) natLt_1_32))
        (broadcast s (Scalar.subi (Scalar.extui (Scalar.cmpi .sgt k 0#32))
          (Scalar.extui (Scalar.cmpi .slt k 0#32)))))
      (cmpi .ne (remsi x (broadcast s k)) (broadcast s 0#32)))
    (subi (divsi x (broadcast s k)) (broadcast s 1#32)) (divsi x (broadcast s k))

/-- Whether each word of a vector is even, by the floor remainder. -/
def evenV {s : Shape} (x : IVec s 32) (h : s.Broadcasts s) : IVec s 1 :=
  cmpi .eq
    (select
      (andi
        (xori (cmpi .slt (remsi x (broadcast s twoW)) (broadcast s 0#32))
          (broadcastTo s (broadcast s (Scalar.cmpi .slt twoW 0#32)) h))
        (cmpi .ne (remsi x (broadcast s twoW)) (broadcast s 0#32)))
      (addi (remsi x (broadcast s twoW)) (broadcast s twoW))
      (remsi x (broadcast s twoW))) (broadcast s 0#32)

/-- The direction of each group of rows in the stage that makes runs of `m` rows. -/
def maskV (b : ℕ) (w m : BitVec 32) (h : MaskOk b) : IVec (S3 b) 1 :=
  evenV (fdivV (rowV b w h) m) h.bc

/-! ## One compare-exchange of a block -/

/-- The block as `b` groups of `h` parts of `d` rows. -/
abbrev S4 (b h d : ℕ) : Shape := ⟨4, ![b, h, d, 128]⟩

/-- One part of every group. -/
abbrev S3d (b d : ℕ) : Shape := ⟨3, ![b, d, 128]⟩

/-- The side conditions of a compare-exchange at distance `d`. -/
structure CxOk (b d : ℕ) : Prop where
  split : S256x128.ShapeCasts (S4 b 2 d)
  lo : (S4 b 2 d).Slices ![0, 0, 0, 0] (S4 b 1 d)
  hi : (S4 b 2 d).Slices ![0, 1, 0, 0] (S4 b 1 d)
  drop : (S4 b 1 d).ShapeCasts (S3d b d)
  put : (S3d b d).ShapeCasts (S4 b 1 d)
  cat : Shape.Concatenates [S4 b 1 d, S4 b 1 d] (S4 b 2 d) 1
  join : (S4 b 2 d).ShapeCasts S256x128
  mcast : (S3 b).ShapeCasts (S3 b)
  mwide : (S3 b).Broadcasts (S3d b d)

/-- The lower rows of every group. -/
def loPart (b d : ℕ) (h : CxOk b d) (v : FVec F S256x128 .f32) : FVec F (S3d b d) .f32 :=
  shapeCast (S3d b d) (extractStridedSlice (S4 b 1 d) ![0, 0, 0, 0] (shapeCast (S4 b 2 d) v h.split) h.lo) h.drop

/-- The upper rows of every group. -/
def hiPart (b d : ℕ) (h : CxOk b d) (v : FVec F S256x128 .f32) : FVec F (S3d b d) .f32 :=
  shapeCast (S3d b d) (extractStridedSlice (S4 b 1 d) ![0, 1, 0, 0] (shapeCast (S4 b 2 d) v h.split) h.hi) h.drop

/-- The block from its lower and its upper rows. -/
def joinParts (b d : ℕ) (h : CxOk b d) (x y : FVec F (S3d b d) .f32) : FVec F S256x128 .f32 :=
  shapeCast S256x128
    (concatenate (S4 b 2 d) 1 [⟨S4 b 1 d, shapeCast (S4 b 1 d) x h.put⟩, ⟨S4 b 1 d, shapeCast (S4 b 1 d) y h.put⟩] h.cat)
    h.join

/-- A compare-exchange at distance `d` in one direction. -/
def cxS (b d : ℕ) (h : CxOk b d) (asc : BitVec 1) (v : FVec F S256x128 .f32) : FVec F S256x128 .f32 :=
  joinParts b d h
    (Scalar.select asc (minimumf (loPart b d h v) (hiPart b d h v)) (maximumf (loPart b d h v) (hiPart b d h v)))
    (Scalar.select asc (maximumf (loPart b d h v) (hiPart b d h v)) (minimumf (loPart b d h v) (hiPart b d h v)))

/-- A compare-exchange at distance `d`, the direction of each group its own. -/
def cxM (b d : ℕ) (h : CxOk b d) (mk : IVec (S3 b) 1) (v : FVec F S256x128 .f32) : FVec F S256x128 .f32 :=
  joinParts b d h
    (select (broadcastTo (S3d b d) (shapeCast (S3 b) mk h.mcast) h.mwide)
      (minimumf (loPart b d h v) (hiPart b d h v)) (maximumf (loPart b d h v) (hiPart b d h v)))
    (select (broadcastTo (S3d b d) (shapeCast (S3 b) mk h.mcast) h.mwide)
      (maximumf (loPart b d h v) (hiPart b d h v)) (minimumf (loPart b d h v) (hiPart b d h v)))

theorem cx128 : CxOk 128 1 := by constructor <;> decide
theorem cx64 : CxOk 64 2 := by constructor <;> decide
theorem cx32 : CxOk 32 4 := by constructor <;> decide
theorem cx16 : CxOk 16 8 := by constructor <;> decide
theorem cx8 : CxOk 8 16 := by constructor <;> decide
theorem cx4 : CxOk 4 32 := by constructor <;> decide
theorem cx2 : CxOk 2 64 := by constructor <;> decide
theorem cx1 : CxOk 1 128 := by constructor <;> decide
theorem mk128 : MaskOk 128 := by constructor <;> decide
theorem mk64 : MaskOk 64 := by constructor <;> decide
theorem mk32 : MaskOk 32 := by constructor <;> decide
theorem mk16 : MaskOk 16 := by constructor <;> decide
theorem mk8 : MaskOk 8 := by constructor <;> decide
theorem mk4 : MaskOk 4 := by constructor <;> decide
theorem mk2 : MaskOk 2 := by constructor <;> decide

/-- A block's rows put in order from a bitonic block, by distances 128 down to 1. -/
def mergeF (asc : BitVec 1) (v : FVec F S256x128 .f32) : FVec F S256x128 .f32 :=
  cxS 128 1 cx128 asc <| cxS 64 2 cx64 asc <| cxS 32 4 cx32 asc <| cxS 16 8 cx16 asc <|
    cxS 8 16 cx8 asc <| cxS 4 32 cx4 asc <| cxS 2 64 cx2 asc <| cxS 1 128 cx1 asc v

/-- The stage of distance `d` in the step that makes runs of `m` rows. -/
def m128 (m : BitVec 32) (v : FVec F S256x128 .f32) := cxM 128 1 cx128 (maskV 128 2#32 m mk128) v
@[inherit_doc m128] def m64 (m : BitVec 32) (v : FVec F S256x128 .f32) := cxM 64 2 cx64 (maskV 64 4#32 m mk64) v
@[inherit_doc m128] def m32 (m : BitVec 32) (v : FVec F S256x128 .f32) := cxM 32 4 cx32 (maskV 32 8#32 m mk32) v
@[inherit_doc m128] def m16 (m : BitVec 32) (v : FVec F S256x128 .f32) := cxM 16 8 cx16 (maskV 16 16#32 m mk16) v
@[inherit_doc m128] def m8 (m : BitVec 32) (v : FVec F S256x128 .f32) := cxM 8 16 cx8 (maskV 8 32#32 m mk8) v
@[inherit_doc m128] def m4 (m : BitVec 32) (v : FVec F S256x128 .f32) := cxM 4 32 cx4 (maskV 4 64#32 m mk4) v
@[inherit_doc m128] def m2 (m : BitVec 32) (v : FVec F S256x128 .f32) := cxM 2 64 cx2 (maskV 2 128#32 m mk2) v

/-- The steps that make runs of 2, 4, … 128 rows inside a block. -/
def runsF (v : FVec F S256x128 .f32) : FVec F S256x128 .f32 :=
  let v2 := m128 2#32 v
  let v4 := m128 4#32 <| m64 4#32 v2
  let v8 := m128 8#32 <| m64 8#32 <| m32 8#32 v4
  let v16 := m128 16#32 <| m64 16#32 <| m32 16#32 <| m16 16#32 v8
  let v32 := m128 32#32 <| m64 32#32 <| m32 32#32 <| m16 32#32 <| m8 32#32 v16
  let v64 := m128 64#32 <| m64 64#32 <| m32 64#32 <| m16 64#32 <| m8 64#32 <| m4 64#32 v32
  m128 128#32 <| m64 128#32 <| m32 128#32 <| m16 128#32 <| m8 128#32 <| m4 128#32 <| m2 128#32 v64

/-! ## The stored blocks -/

/-- A sorted block is rounded to its storage format. -/
def outB (v : FVec F S256x128 .f32) : FVec F S256x128 .bf16 :=
  shapeCast S256x128 (truncf .bf16 v bitsLt_bf16_f32) shapeCasts_S256x128_S256x128

/-- The first stored block: the device's own rows in order, the direction by the device's number. -/
def initB (p : BitVec 32) (x : Vec F S256x128 .bf16) : FVec F S256x128 .bf16 :=
  outB (mergeF (evenW p) (runsF (extf .f32 (shapeCast S256x128 x shapeCasts_S256x128_S256x128) bitsLt_bf16_f32)))

/-- The merged block. -/
def mergeB (asc : BitVec 1) (x : Vec F S256x128 .bf16) : FVec F S256x128 .bf16 :=
  outB (mergeF asc (extf .f32 x bitsLt_bf16_f32))

/-- Whether a device keeps the smaller values of a pair: by bit `c` of its number and the direction. -/
def keepW (p c : BitVec 32) (asc : BitVec 1) : BitVec 1 :=
  Scalar.xori (Scalar.xori (Scalar.cmpi .eq (Scalar.andi p c) 0#32) asc) 1#1

/-- One kept block of two. -/
def keepB (k : BitVec 1) (x y : FVec F S256x128 .bf16) : FVec F S256x128 .bf16 :=
  Scalar.select k (minimumf x y) (maximumf x y)

/-- A received block, out of its slot. -/
def unslot (t : Vec F S1x256x128 .bf16) : FVec F S256x128 .bf16 :=
  shapeCast S256x128 t shapeCasts_S1x256x128_S256x128

/-- The block after an exchange with one device. -/
def mix1 (p c : BitVec 32) (asc : BitVec 1) (x : Vec F S256x128 .bf16) (t : Vec F S1x256x128 .bf16) :
    FVec F S256x128 .bf16 :=
  shapeCast S256x128 (keepB (keepW p c asc) x (unslot t)) shapeCasts_S256x128_S256x128

/-- The block after an exchange with three devices: the larger distance, then the smaller. -/
def mix3 (p c d : BitVec 32) (asc : BitVec 1) (x : Vec F S256x128 .bf16) (t u w : Vec F S1x256x128 .bf16) :
    FVec F S256x128 .bf16 :=
  shapeCast S256x128
    (keepB (keepW p c asc) (keepB (keepW p d asc) x (unslot u)) (keepB (keepW p d asc) (unslot t) (unslot w)))
    shapeCasts_S256x128_S256x128

/-! ## The program -/

section Program

variable (arg0 : Memref sig .tc .vmem S256x128 .bf16) (harg0 : arg0.IsWhole)
  (arg1 : Memref sig .tc .vmem S256x128 .f32) (harg1 : arg1.IsWhole)
  (arg2 : Memref sig .tc .vmem S256x128 .bf16) (harg2 : arg2.IsWhole)
  (arg3 : Memref sig .tc .vmem S21x256x128 .bf16) (harg3 : arg3.IsWhole)
  (arg4 : DmaSems sig S21) (arg5 : DmaSems sig S21)

theorem slot_inb (s : Fin 21) : ∀ a, (![(s : ℕ), 0, 0] : Fin 3 → ℕ) a + S1x256x128.size a ≤ S21x256x128.size a := by
  revert s; decide
theorem sem_inb (s : Fin 21) : ∀ a, (![(s : ℕ)] : Fin 1 → ℕ) a + S1.size a ≤ S21.size a := by
  revert s; decide
theorem slot_words (s : Fin 21) :
    (Rect.unit (s := S21x256x128) ![(s : ℕ), 0, 0] S1x256x128.size (slot_inb s)).WholeWords (EltTy.packing .bf16) := by
  revert s; decide

/-- Slot `s` of the received blocks, as a block. -/
abbrev slotM (s : Fin 21) : Memref sig .tc .vmem S256x128 .bf16 :=
  (arg3.slice (Rect.unit (s := S21x256x128) ![(s : ℕ), 0, 0] S1x256x128.size (slot_inb s)) (fun _ => rfl)).squeeze
    S256x128 squeezes_S1x256x128_S256x128

/-- Semaphore `s` of an array. -/
abbrev semM (a : DmaSems sig S21) (s : Fin 21) : DmaSems sig S_ :=
  (a.slice (Rect.unit (s := S21) ![(s : ℕ)] S1.size (sem_inb s))).squeeze S_ squeezes_S1_S_

abbrev Pr (F : FTy → Type) [FloatOps F] (α : Type) := Prog (TpuEff nD τ sig (Elt F) Λ₀ .tc) α

/-- The whole block's rectangle. -/
abbrev rB : Rect S256x128 := Rect.unit (s := S256x128) ![0, 0] S256x128.size inb_S256x128_S256x128_0_0

/-- The copy of the block into slot `s` of another device. -/
def sendP (s : Fin 21) (dv : Dev nD) : Pr F PUnit :=
  Prog.lift (.enqueueDma arg2 (.remote (Dev.tc dv) (slotM arg3 s) (.dma (semM arg4 s).sem)) (.dma (semM arg5 s).sem)
    harg2.wordExact ((harg3.wordExact_slice rfl _ (slot_words s)).reshape _ _) ⟨⟨rfl, Or.inl rfl⟩, trivial⟩)

/-- The wait for the own copy out of the block. -/
def waitSendP (s : Fin 21) : Pr F PUnit :=
  Prog.lift (.waitDma2 (semM arg4 s).sem (slotM arg3 s) arg2 ((harg3.wordExact_slice rfl _ (slot_words s)).reshape _ _)
    harg2.wordExact)

/-- The wait for the copy into the own slot. -/
def waitRecvP (s : Fin 21) : Pr F PUnit :=
  Prog.lift (.waitDma2 (semM arg5 s).sem arg2 (slotM arg3 s) harg2.wordExact
    ((harg3.wordExact_slice rfl _ (slot_words s)).reshape _ _))

/-- The block read. -/
def loadP : Pr F (Vec F S256x128 .bf16) := Prog.lift (.load arg2 rB.toLoadRect (View.loadsAt_vmem h_S256x128))

/-- A received block read. -/
def slotP (s : Fin 21) : Pr F (Vec F S1x256x128 .bf16) :=
  Prog.lift (.load arg3 (Rect.unit (s := S21x256x128) ![(s : ℕ), 0, 0] S1x256x128.size (slot_inb s)).toLoadRect
    (View.loadsAt_vmem h_S1x256x128))

/-- The block written. -/
def storeP (v : FVec F S256x128 .bf16) : Pr F PUnit :=
  Prog.lift (.store arg2 rB v Finset.univ
    (View.stores_vmem h_S256x128 (harg2.storeExact_slice rfl _ packedbf16_S256x128_S256x128_0_0) (fun _ => rfl)) (.inl rfl))

/-- An exchange with one device. -/
def round1 (s : Fin 21) (dv : Dev nD) (f : Vec F S256x128 .bf16 → Vec F S1x256x128 .bf16 → FVec F S256x128 .bf16) :
    Pr F PUnit := do
  sendP arg2 harg2 arg3 harg3 arg4 arg5 s dv
  waitSendP arg2 harg2 arg3 harg3 arg4 s
  waitRecvP arg2 harg2 arg3 harg3 arg5 s
  let x ← loadP arg2
  let t ← slotP arg3 s
  let _ ← loadP arg2
  storeP arg2 harg2 (f x t)

/-- An exchange with three devices. -/
def round3 (s s' s'' : Fin 21) (dv dv' dv'' : Dev nD)
    (f : Vec F S256x128 .bf16 → Vec F S1x256x128 .bf16 → Vec F S1x256x128 .bf16 → Vec F S1x256x128 .bf16 →
      FVec F S256x128 .bf16) : Pr F PUnit := do
  sendP arg2 harg2 arg3 harg3 arg4 arg5 s dv
  sendP arg2 harg2 arg3 harg3 arg4 arg5 s' dv'
  sendP arg2 harg2 arg3 harg3 arg4 arg5 s'' dv''
  waitSendP arg2 harg2 arg3 harg3 arg4 s
  waitRecvP arg2 harg2 arg3 harg3 arg5 s
  waitSendP arg2 harg2 arg3 harg3 arg4 s'
  waitRecvP arg2 harg2 arg3 harg3 arg5 s'
  waitSendP arg2 harg2 arg3 harg3 arg4 s''
  waitRecvP arg2 harg2 arg3 harg3 arg5 s''
  let x ← loadP arg2
  let t ← slotP arg3 s
  let u ← slotP arg3 s'
  let w ← slotP arg3 s''
  let _ ← loadP arg2
  storeP arg2 harg2 (f x t u w)

/-- The merge of the block's own rows. -/
def mergeP (asc : BitVec 1) : Pr F PUnit := do
  let x ← loadP arg2
  let _ ← loadP arg2
  storeP arg2 harg2 (mergeB asc x)

/-- The barrier semaphore. -/
abbrev barS : Sem sig := (SemArray.scalar (sig.barrier 0 rfl) : Sems sig S_).sem

/-- The device's number, as the printed word. -/
def devW (d : Dev nD) : BitVec 32 := Scalar.remsi (Scalar.divsi (Dev.word d) 1#32) 32#32

/-- The direction bit at run length `k` blocks. -/
def ascW (d : Dev nD) (k : BitVec 32) : BitVec 1 := evenW (fdivW (devW d) k)

/-- One signal to each device that will copy here. -/
def signalsP (d : Dev nD) : Pr F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semSignalWord (⟨k0_dev5 d, k0_dev5_lt d⟩ : Dev nD) barS 1#32
  semSignalWord (⟨k0_dev6 d, k0_dev6_lt d⟩ : Dev nD) barS 1#32
  semSignalWord (⟨k0_dev7 d, k0_dev7_lt d⟩ : Dev nD) barS 1#32
  semSignalWord (⟨k0_dev8 d, k0_dev8_lt d⟩ : Dev nD) barS 1#32
  semSignalWord (⟨k0_dev9 d, k0_dev9_lt d⟩ : Dev nD) barS 1#32
  semWaitWord barS 9#32

/-- The nine rounds and the merges between them. -/
def roundsP (d : Dev nD) : Pr F PUnit := do
  round1 arg2 harg2 arg3 harg3 arg4 arg5 0 ⟨k0_dev10 d, k0_dev10_lt d⟩ (mix1 (devW d) 1#32 (ascW d 2#32))
  mergeP arg2 harg2 (ascW d 2#32)
  round3 arg2 harg2 arg3 harg3 arg4 arg5 1 2 3 ⟨k0_dev11 d, k0_dev11_lt d⟩ ⟨k0_dev12 d, k0_dev12_lt d⟩
    ⟨k0_dev13 d, k0_dev13_lt d⟩ (mix3 (devW d) 1#32 2#32 (ascW d 4#32))
  mergeP arg2 harg2 (ascW d 4#32)
  round3 arg2 harg2 arg3 harg3 arg4 arg5 4 5 6 ⟨k0_dev14 d, k0_dev14_lt d⟩ ⟨k0_dev15 d, k0_dev15_lt d⟩
    ⟨k0_dev16 d, k0_dev16_lt d⟩ (mix3 (devW d) 2#32 4#32 (ascW d 8#32))
  round1 arg2 harg2 arg3 harg3 arg4 arg5 7 ⟨k0_dev17 d, k0_dev17_lt d⟩ (mix1 (devW d) 1#32 (ascW d 8#32))
  mergeP arg2 harg2 (ascW d 8#32)
  round3 arg2 harg2 arg3 harg3 arg4 arg5 8 9 10 ⟨k0_dev18 d, k0_dev18_lt d⟩ ⟨k0_dev19 d, k0_dev19_lt d⟩
    ⟨k0_dev20 d, k0_dev20_lt d⟩ (mix3 (devW d) 4#32 8#32 (ascW d 16#32))
  round3 arg2 harg2 arg3 harg3 arg4 arg5 11 12 13 ⟨k0_dev21 d, k0_dev21_lt d⟩ ⟨k0_dev22 d, k0_dev22_lt d⟩
    ⟨k0_dev23 d, k0_dev23_lt d⟩ (mix3 (devW d) 1#32 2#32 (ascW d 16#32))
  mergeP arg2 harg2 (ascW d 16#32)
  round3 arg2 harg2 arg3 harg3 arg4 arg5 14 15 16 ⟨k0_dev24 d, k0_dev24_lt d⟩ ⟨k0_dev25 d, k0_dev25_lt d⟩
    ⟨k0_dev26 d, k0_dev26_lt d⟩ (mix3 (devW d) 8#32 16#32 (ascW d 32#32))
  round3 arg2 harg2 arg3 harg3 arg4 arg5 17 18 19 ⟨k0_dev27 d, k0_dev27_lt d⟩ ⟨k0_dev28 d, k0_dev28_lt d⟩
    ⟨k0_dev29 d, k0_dev29_lt d⟩ (mix3 (devW d) 2#32 4#32 (ascW d 32#32))
  round1 arg2 harg2 arg3 harg3 arg4 arg5 20 ⟨k0_dev30 d, k0_dev30_lt d⟩ (mix1 (devW d) 1#32 (ascW d 32#32))
  mergeP arg2 harg2 (ascW d 32#32)

/-- The result written out. -/
def finishP : Pr F PUnit := do
  let x ← loadP arg2
  let _ ← (Prog.lift (.load arg1 rB.toLoadRect (View.loadsAt_vmem h_S256x128)) : Pr F (Vec F S256x128 .f32))
  Prog.lift (.store arg1 rB (extf .f32 x bitsLt_bf16_f32) Finset.univ
    (View.stores_vmem_bits_univ h_S256x128 rfl) (.inl rfl))

/-- The whole program of one device. -/
def sortP : Pr F PUnit := do
  let d ← Prog.lift .deviceId
  signalsP d
  let x ← loadP arg0
  let _ ← loadP arg2
  storeP arg2 harg2 (initB (devW d) x)
  roundsP arg2 harg2 arg3 harg3 arg4 arg5 d
  finishP arg1 arg2

end Program

end Cert.Proof
-- ==== Proof.Program.lean ====
module

public import proofs.«01_k».proof.Proof.Ops

@[expose] public section

/-! # The printed body is the named program

Every statement of the printed body meets its named counterpart by unfolding. -/

noncomputable section

namespace Cert.Proof

open Idealize.ShloMosaic Idealize.SL.Sem
open Cert.KernelIdeal Cert.KernelIdeal.Gen

variable {F : FTy → Type} [FloatOps F]

set_option maxRecDepth 100000 in
set_option maxHeartbeats 0 in
/-- The printed body is the named program. -/
theorem body_eq_sortP (arg0 : Memref sig .tc .vmem S256x128 .bf16) (harg0 : arg0.IsWhole)
    (arg1 : Memref sig .tc .vmem S256x128 .f32) (harg1 : arg1.IsWhole)
    (arg2 : Memref sig .tc .vmem S256x128 .bf16) (harg2 : arg2.IsWhole)
    (arg3 : Memref sig .tc .vmem S21x256x128 .bf16) (harg3 : arg3.IsWhole)
    (arg4 : DmaSems sig S21) (arg5 : DmaSems sig S21) :
    cc0_body_skel (F := F) arg0 harg0 arg1 harg1 arg2 harg2 arg3 harg3 arg4 arg5 =
      sortP arg0 arg1 arg2 harg2 arg3 harg3 arg4 arg5 := rfl

end Cert.Proof
-- ==== Proof.Protocol.lean ====
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

/-! # The protocol of the exchanges

Every device copies its block into a slot of another device, 21 times over, each slot used once.
A slot's cells: one at the sender, which gives back the share of the block the copy reads, one at
the receiver, which gives the slot filled. The barrier cell of a device collects one unit from each
of the nine devices it will copy to; with the unit come those of that device's slots the copies go
to. -/

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

/-! ## The resource algebra -/

abbrev UB : Type := URounds (GSem nD τ sig) (Fin 9)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Partners and slots -/

/-- The nine distances between devices that exchange. -/
def mv : Fin 9 → ℕ := ![1, 2, 3, 4, 6, 8, 12, 16, 24]

set_option backward.proofsInPublic true in
/-- The device at the `i`th distance. -/
def pr (i : Fin 9) (c : Dev nD) : Dev nD := ⟨(c.val ^^^ mv i) % 32, Nat.mod_lt _ (by decide)⟩

theorem pr_pr (i : Fin 9) (c : Dev nD) : pr i (pr i c) = c := by revert i c; decide +kernel

/-- A slot's distance. -/
def mi : Fin 21 → Fin 9 := ![0, 0, 1, 2, 1, 3, 4, 0, 3, 5, 6, 0, 1, 2, 5, 7, 8, 1, 3, 4, 0]

/-- A slot's round. -/
def rn : Fin 21 → ℕ := ![0, 1, 1, 1, 2, 2, 2, 3, 4, 4, 4, 5, 5, 5, 6, 6, 6, 7, 7, 7, 8]

/-- The share of the block a slot's copy reads. -/
def shr : Fin 21 → PosShare TreeShare :=
  let t := shares3 fullShare
  ![fullShare, t 0, t 1, t 2, t 0, t 1, t 2, fullShare, t 0, t 1, t 2, t 0, t 1, t 2, t 0, t 1, t 2, t 0, t 1, t 2,
    fullShare]

/-- All slots in order of use. -/
def allS : List (Fin 21) := [0, 1, 2, 3, 4, 5, 6, 7, 8, 9, 10, 11, 12, 13, 14, 15, 16, 17, 18, 19, 20]

/-- The slots of a distance. -/
def slotsOf (i : Fin 9) : List (Fin 21) := allS.filter fun s => mi s = i

/-! ## Memrefs and cells -/

abbrev xM : Memref sig .tc .vmem S256x128 .bf16 := Memref.whole cc0_stg0_0
abbrev oM : Memref sig .tc .vmem S256x128 .f32 := Memref.whole cc0_stg1_0
abbrev kM : Memref sig .tc .vmem S256x128 .bf16 := Memref.whole cc0_scratch0
abbrev cM : Memref sig .tc .vmem S21x256x128 .bf16 := Memref.whole cc0_scratch1

/-- The cells of one device: the barrier, a slot's sending side, a slot's receiving side. -/
abbrev Kx : Type := Unit ⊕ (Fin 21 ⊕ Fin 21)

def csem : Kx → SemLoc sig
  | .inl _ => .reg barS
  | .inr (.inl s) => .dma (semM cc0_scratch2 s).sem
  | .inr (.inr s) => .dma (semM cc0_scratch3 s).sem

abbrev kcell (ck : Dev nD × Kx) : GSem nD τ sig := ((ck.1 : Thread nD τ), csem ck.2)
abbrev barCell (c : Dev nD) : GSem nD τ sig := ((c : Thread nD τ), .reg barS)
abbrev sndCell (c : Dev nD) (s : Fin 21) : GSem nD τ sig := ((c : Thread nD τ), .dma (semM cc0_scratch2 s).sem)
abbrev rcvCell (c : Dev nD) (s : Fin 21) : GSem nD τ sig := ((c : Thread nD τ), .dma (semM cc0_scratch3 s).sem)

theorem csem_injective : Function.Injective csem := by
  have h : ∀ k k' : Kx, csem k = csem k' → k = k' := by decide +kernel
  exact fun k k' => h k k'

open Classical in
/-- Which cell of a device a semaphore is. -/
def kof (sm : SemLoc sig) : Option Kx := if h : ∃ k, csem k = sm then some h.choose else none

theorem kof_csem (k : Kx) : kof (csem k) = some k := by
  have h : ∃ k', csem k' = csem k := ⟨k, rfl⟩
  unfold kof
  rw [dif_pos h]
  exact congrArg some (csem_injective h.choose_spec)

theorem kof_bar : kof (.reg barS) = some (.inl ()) := kof_csem (.inl ())
theorem kof_snd (s : Fin 21) : kof (.dma (semM cc0_scratch2 s).sem) = some (.inr (.inl s)) := kof_csem (.inr (.inl s))
theorem kof_rcv (s : Fin 21) : kof (.dma (semM cc0_scratch3 s).sem) = some (.inr (.inr s)) := kof_csem (.inr (.inr s))

theorem kof_of_ne {sm : SemLoc sig} (h : ∀ k, csem k ≠ sm) : kof sm = none := by
  unfold kof
  exact dif_neg fun ⟨k, hk⟩ => h k hk

abbrev N : ℕ := (kM : Memref sig .tc .vmem S256x128 .bf16).view.dmaCredit
theorem N_pos : 0 < N := View.dmaCredit_pos _ (by decide)
theorem slot_credit (s : Fin 21) : (slotM cM s).view.dmaCredit = N := rfl

/-! ## Contents -/

abbrev Blk (F : FTy → Type) [FloatOps F] : Type := FVec F S256x128 .bf16

/-- The staged input of a device. -/
def xstg (c : Dev nD) : (cc0_stg0_0 : Ref sig .tc).ty.Contents (Elt F) :=
  (win0_0.blk (0 : Fin 1)).view.read (Elt F) ((s₀ m ρ).mem ((c : Thread nD τ).loc main_arg0))

/-- The block after an exchange with one device, the received block given as such. -/
def mixU1 (p c : BitVec 32) (asc : BitVec 1) (x y : Blk F) : Blk F :=
  shapeCast S256x128 (keepB (keepW p c asc) x y) shapeCasts_S256x128_S256x128

/-- The block after an exchange with three devices, the received blocks given as such. -/
def mixU3 (p c d : BitVec 32) (asc : BitVec 1) (x t u w : Blk F) : Blk F :=
  shapeCast S256x128 (keepB (keepW p c asc) (keepB (keepW p d asc) x u) (keepB (keepW p d asc) t w))
    shapeCasts_S256x128_S256x128

/-- One round's mixing of the devices' blocks: the two distances' indices and their sum's. -/
def mixR1 (i : Fin 9) (w k : BitVec 32) (X : Dev nD → Blk F) (c : Dev nD) : Blk F :=
  mixU1 (devW c) w (ascW c k) (X c) (X (pr i c))
@[inherit_doc mixR1] def mixR3 (i j l : Fin 9) (w v k : BitVec 32) (X : Dev nD → Blk F) (c : Dev nD) : Blk F :=
  mixU3 (devW c) w v (ascW c k) (X c) (X (pr i c)) (X (pr j c)) (X (pr l c))

/-- A merge of every device's block. -/
def mergeR (k : BitVec 32) (X : Dev nD → Blk F) (c : Dev nD) : Blk F := mergeB (ascW c k) (X c)

/-- What one round makes of the devices' blocks. -/
def stepB (r : ℕ) (X : Dev nD → Blk F) : Dev nD → Blk F :=
  match r with
  | 0 => mergeR 2#32 (mixR1 0 1#32 2#32 X)
  | 1 => mergeR 4#32 (mixR3 0 1 2 1#32 2#32 4#32 X)
  | 2 => mixR3 1 3 4 2#32 4#32 8#32 X
  | 3 => mergeR 8#32 (mixR1 0 1#32 8#32 X)
  | 4 => mixR3 3 5 6 4#32 8#32 16#32 X
  | 5 => mergeR 16#32 (mixR3 0 1 2 1#32 2#32 16#32 X)
  | 6 => mixR3 5 7 8 8#32 16#32 32#32 X
  | 7 => mixR3 1 3 4 2#32 4#32 32#32 X
  | _ => mergeR 32#32 (mixR1 0 1#32 32#32 X)

/-- The devices' blocks before round `r`. -/
def B : ℕ → Dev nD → Blk F
  | 0 => fun c => initB (devW c) (xstg m ρ c)
  | r + 1 => stepB r (B r)

/-! ## Buffers -/

/-- The block at a share. -/
def blkPts (c : Dev nD) (q : PosShare TreeShare) (v : Blk F) : sProp 𝕄 :=
  (kM : Memref sig .tc .vmem S256x128 .bf16).view.loc (c : Thread nD τ)
    ↦[(kM : Memref sig .tc .vmem S256x128 .bf16).view.set]{q} v

/-- A slot holding a block. -/
def slotPts (c : Dev nD) (s : Fin 21) (X : Blk F) : sProp 𝕄 :=
  iprop(∃ f : Buf (Elt F) ((slotM cM s).view.loc (c : Thread nD τ)), ⌜(slotM cM s).view.read (Elt F) f = X⌝
    ∗ ((slotM cM s).view.loc (c : Thread nD τ) ↦[(slotM cM s).view.set]{fullShare} f))

/-- A slot at any contents. -/
def slotAny (c : Dev nD) (s : Fin 21) : sProp 𝕄 :=
  iprop(∃ f : Buf (Elt F) ((slotM cM s).view.loc (c : Thread nD τ)),
    (slotM cM s).view.loc (c : Thread nD τ) ↦[(slotM cM s).view.set]{fullShare} f)

instance blkPts_storable (c : Dev nD) (q v) : BI.Storable (upEmb : UEmb _ 𝕄) (blkPts (F := F) c q v) := by
  unfold blkPts; infer_instance
instance slotPts_storable (c : Dev nD) (s X) : BI.Storable (upEmb : UEmb _ 𝕄) (slotPts (F := F) c s X) := by
  unfold slotPts; infer_instance
instance slotAny_storable (c : Dev nD) (s) : BI.Storable (upEmb : UEmb _ 𝕄) (slotAny (F := F) c s) := by
  unfold slotAny; infer_instance

/-- A list of slots at any contents. -/
def slotsAny (c : Dev nD) : List (Fin 21) → sProp 𝕄
  | [] => iprop(emp)
  | s :: l => iprop(slotAny c s ∗ slotsAny c l)

instance slotsAny_storable (c : Dev nD) (l) : BI.Storable (upEmb : UEmb _ 𝕄) (slotsAny (F := F) c l) := by
  induction l with
  | nil => unfold slotsAny; infer_instance
  | cons s l ih => unfold slotsAny; infer_instance

/-! ## The schedule -/

def dutyOf : Option Kx → Finset (Fin 9)
  | some (.inl _) => Finset.univ
  | some (.inr _) => {0}
  | none => ∅

def amountOfK : Option Kx → ℕ
  | some (.inl _) => 1
  | _ => N

def payOf (c : Dev nD) (d : Fin 9) : Option Kx → sProp 𝕄
  | some (.inl _) => slotsAny (pr d c) (slotsOf d)
  | some (.inr (.inl s)) => blkPts c (shr s) (B m ρ (rn s) c)
  | some (.inr (.inr s)) => slotPts c s (B m ρ (rn s) (pr (mi s) c))
  | none => iprop(emp)

instance payOf_storable (c : Dev nD) (d k) : BI.Storable (upEmb : UEmb _ 𝕄) (payOf (F := F) m ρ c d k) := by
  rcases k with _ | _ | _ | _ <;> unfold payOf <;> infer_instance

/-- One round: the barrier's nine units, each copy's credit on both sides. -/
def Rd : Rounds.Schedule (GSem nD τ sig) (Fin 9) 𝕄 where
  duties g r := if r = 0 ∧ g.1.2 = .tc then dutyOf (kof g.2) else ∅
  unitless _ := False
  amount g _ _ := amountOfK (kof g.2)
  payload g _ d := payOf m ρ g.1.1 d (kof g.2)
  amount_pos g _ _ _ := by
    rcases kof g.2 with _ | _ | _
    · exact N_pos
    · exact Nat.one_pos
    · exact N_pos

instance Rd_payload_storable (g : GSem nD τ sig) (r : ℕ) (d : Fin 9) :
    BI.Storable (upEmb : UEmb _ 𝕄) ((Rd (F := F) m ρ).payload g r d) := payOf_storable m ρ _ _ _

section Sched
variable (c : Dev nD) (s : Fin 21)

theorem duties_bar : (Rd (F := F) m ρ).duties (barCell c) 0 = Finset.univ := by
  dsimp only [Rd]; rw [if_pos ⟨rfl, rfl⟩, kof_bar]; rfl
theorem duties_snd : (Rd (F := F) m ρ).duties (sndCell c s) 0 = {0} := by
  dsimp only [Rd]; rw [if_pos ⟨rfl, rfl⟩, kof_snd]; rfl
theorem duties_rcv : (Rd (F := F) m ρ).duties (rcvCell c s) 0 = {0} := by
  dsimp only [Rd]; rw [if_pos ⟨rfl, rfl⟩, kof_rcv]; rfl
theorem duties_later (g : GSem nD τ sig) : ∀ r, 0 + 1 ≤ r → (Rd (F := F) m ρ).duties g r = ∅ :=
  fun r hr => by dsimp only [Rd]; exact if_neg fun h => by omega

theorem amount_bar (d : Fin 9) : (Rd (F := F) m ρ).amount (barCell c) 0 d = 1 := by dsimp only [Rd]; rw [kof_bar]; rfl
theorem amount_snd (d : Fin 9) : (Rd (F := F) m ρ).amount (sndCell c s) 0 d = N := by dsimp only [Rd]; rw [kof_snd]; rfl
theorem amount_rcv (d : Fin 9) : (Rd (F := F) m ρ).amount (rcvCell c s) 0 d = N := by dsimp only [Rd]; rw [kof_rcv]; rfl

theorem expect_bar : (Rd (F := F) m ρ).expect (barCell c) 0 = 9 := by
  unfold Schedule.expect Schedule.amountOf
  rw [duties_bar, Finset.sum_congr rfl fun d _ => amount_bar m ρ c d, Finset.sum_const, Finset.card_univ, Fintype.card_fin,
    smul_eq_mul]
theorem expect_snd : (Rd (F := F) m ρ).expect (sndCell c s) 0 = N := by
  unfold Schedule.expect Schedule.amountOf; rw [duties_snd, Finset.sum_singleton, amount_snd]
theorem expect_rcv : (Rd (F := F) m ρ).expect (rcvCell c s) 0 = N := by
  unfold Schedule.expect Schedule.amountOf; rw [duties_rcv, Finset.sum_singleton, amount_rcv]

theorem payload_bar (d : Fin 9) : (Rd (F := F) m ρ).payload (barCell c) 0 d = slotsAny (pr d c) (slotsOf d) := by
  dsimp only [Rd]; rw [kof_bar]; rfl
theorem payload_snd (d : Fin 9) : (Rd (F := F) m ρ).payload (sndCell c s) 0 d = blkPts c (shr s) (B m ρ (rn s) c) := by
  dsimp only [Rd]; rw [kof_snd]; rfl
theorem payload_rcv (d : Fin 9) :
    (Rd (F := F) m ρ).payload (rcvCell c s) 0 d = slotPts c s (B m ρ (rn s) (pr (mi s) c)) := by
  dsimp only [Rd]; rw [kof_rcv]; rfl

theorem rest_snd : bigSep ((Rd (F := F) m ρ).duties (sndCell c s) 0 \ ∅) (fun d => (Rd (F := F) m ρ).payload (sndCell c s) 0 d)
    = blkPts c (shr s) (B m ρ (rn s) c) := by
  rw [Finset.sdiff_empty, duties_snd, bigSep_singleton, payload_snd]
theorem rest_rcv : bigSep ((Rd (F := F) m ρ).duties (rcvCell c s) 0 \ ∅) (fun d => (Rd (F := F) m ρ).payload (rcvCell c s) 0 d)
    = slotPts c s (B m ρ (rn s) (pr (mi s) c)) := by
  rw [Finset.sdiff_empty, duties_rcv, bigSep_singleton, payload_rcv]
theorem rest_bar : bigSep ((Rd (F := F) m ρ).duties (barCell c) 0 \ ∅) (fun d => (Rd (F := F) m ρ).payload (barCell c) 0 d)
    = bigSep Finset.univ fun d => slotsAny (pr d c) (slotsOf d) := by
  rw [Finset.sdiff_empty, duties_bar]
  exact bigSep_congr fun d _ => payload_bar m ρ c d

end Sched

/-! ## What a device owes; the levels -/

/-- What the copies of a list of slots owe. -/
def Orem (c : Dev nD) : List (Fin 21) → CellTallies nD τ sig Unit
  | [] => 0
  | s :: l => Orem c l + tallyAt (rcvCell (pr (mi s) c) s) () N

/-- The same and the signals of a list of distances. -/
def Osig (c : Dev nD) : List (Fin 9) → CellTallies nD τ sig Unit
  | [] => Orem c allS
  | i :: l => Osig c l + tallyAt (barCell (pr i c)) () 1

def allI : List (Fin 9) := [0, 1, 2, 3, 4, 5, 6, 7, 8]

def O₀ (c : Dev nD) : CellTallies nD τ sig Unit := Osig c allI

def L (g : GSem nD τ sig) : Finset Unit := if g.1.2 = .tc then {()} else ∅
/-- Barrier cells lowest, a slot's receiving cell by its round; the rest at zero. -/
def lvK : Option Kx → ℕ
  | some (.inl _) => 1
  | some (.inr (.inr s)) => 2 + rn s
  | _ => 0
@[inherit_doc lvK] def lv (g : GSem nD τ sig) (_ : Unit) : ℕ := lvK (kof g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kof_bar]; rfl
theorem lv_snd (c : Dev nD) (s) : lv (sndCell c s) () = 0 := by unfold lv; rw [kof_snd]; rfl
theorem lv_rcv (c : Dev nD) (s) : lv (rcvCell c s) () = 2 + rn s := by unfold lv; rw [kof_rcv]; rfl

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem Orem_pos {c : Dev nD} {l : List (Fin 21)} {g : GSem nD τ sig} {u : Unit} (h : 0 < Orem c l g u) :
    ∃ s ∈ l, g = rcvCell (pr (mi s) c) s := by
  induction l with
  | nil => exact absurd h (Nat.lt_irrefl 0)
  | cons s l ih =>
    unfold Orem at h
    rw [Pi.add_apply, Finsupp.add_apply] at h
    rcases Nat.eq_zero_or_pos (Orem c l g u) with h0 | h0
    · rw [h0, Nat.zero_add] at h
      exact ⟨s, List.mem_cons_self, tally_pos h⟩
    · obtain ⟨s', hs, hg⟩ := ih h0
      exact ⟨s', List.mem_cons_of_mem _ hs, hg⟩

theorem Osig_pos {c : Dev nD} {l : List (Fin 9)} {g : GSem nD τ sig} {u : Unit} (h : 0 < Osig c l g u) :
    (∃ s ∈ allS, g = rcvCell (pr (mi s) c) s) ∨ ∃ i, g = barCell (pr i c) := by
  induction l with
  | nil => exact Or.inl (Orem_pos h)
  | cons i l ih =>
    unfold Osig at h
    rw [Pi.add_apply, Finsupp.add_apply] at h
    rcases Nat.eq_zero_or_pos (Osig c l g u) with h0 | h0
    · rw [h0, Nat.zero_add] at h
      exact Or.inr ⟨i, tally_pos h⟩
    · exact ih h0

/-- A wait on a cell below every copy still owed. -/
theorem mayWait_Orem (c : Dev nD) (sm : SemLoc sig) (l : List (Fin 21))
    (h : ∀ s ∈ l, lv ((c : Thread nD τ), sm) () < 2 + rn s) :
    (levAts L lv : sProp 𝕄) ⊢ MayWait (c : Thread nD τ) sm () (Orem c l) :=
  MayOwe.of_cut (L := L) (lev := lv) (lv ((c : Thread nD τ), sm) ())
    (fun p hp => by rw [Finset.mem_singleton.mp hp, L_tc]; exact Finset.mem_singleton_self _)
    (fun g u hg => by obtain ⟨s, -, rfl⟩ := Orem_pos hg; rw [L_tc]; exact Finset.mem_singleton_self _)
    (fun p hp => by rw [Finset.mem_singleton.mp hp])
    (fun g u hg => by obtain ⟨s, hs, rfl⟩ := Orem_pos hg; rw [lv_rcv]; exact h s hs)

/-- A wait of the pipeline, on a cell that is none of the protocol's. -/
theorem mayWait_stage (c : Dev nD) (q : DmaSem sig) (hq : ∀ k, csem k ≠ .dma q) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases Osig_pos hg with ⟨s, -, rfl⟩ | ⟨i, rfl⟩ <;> rw [L_tc] <;> exact Finset.mem_singleton_self _)
      (fun p hp => by rw [Finset.mem_singleton.mp hp]; unfold lv; rw [kof_of_ne hq]; rfl)
      (fun g u hg => by
        rcases Osig_pos hg with ⟨s, -, rfl⟩ | ⟨i, rfl⟩
        · rw [lv_rcv]; omega
        · rw [lv_bar]; exact Nat.one_pos)
  · rw [MayWait_zero]; iintro -; iempintro

end Cert.Proof
-- ==== Proof.Steps.lean ====
module

public import proofs.«01_k».proof.Proof.Protocol
public import Idealize.ShloMosaic.Lib.Pipeline.BigSepL

@[expose] public section

/-! # The steps of one device's program

Each step takes what it needs and hands what it leaves to the rest of the program. -/

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Shared facts -/

/-- The invariants of all cells and that all stand at their first round; the levels. -/
def Ctx (K : Dev nD × Kx → ℕ) : sProp 𝕄 :=
  iprop((bigSep Finset.univ fun ck : Dev nD × Kx => cellInv ER (Rd m ρ) (K ck) (kcell ck))
    ∗ (bigSep Finset.univ fun ck : Dev nD × Kx => reached ER (kcell ck) 0) ∗ levAts L lv)

instance Ctx_persistent (K : Dev nD × Kx → ℕ) : BI.Persistent (Ctx (F := F) m ρ K) := by unfold Ctx; infer_instance

variable (K : Dev nD × Kx → ℕ)

theorem inv_at (ck : Dev nD × Kx) :
    (bigSep Finset.univ fun ck : Dev nD × Kx => (cellInv ER (Rd m ρ) (K ck) (kcell ck) : sProp 𝕄))
      ⊢ cellInv ER (Rd m ρ) (K ck) (kcell ck) :=
  bigSep_elim (Finset.mem_univ ck)
theorem reached_at (ck : Dev nD × Kx) :
    (bigSep Finset.univ fun ck : Dev nD × Kx => (reached ER (kcell ck) 0 : sProp 𝕄)) ⊢ reached ER (kcell ck) 0 :=
  bigSep_elim (Finset.mem_univ ck)

theorem ctx_inv (c : Dev nD) (k : Kx) : Ctx m ρ K ⊢ cellInv ER (Rd m ρ) (K (c, k)) (kcell (c, k)) := by
  unfold Ctx
  iintro ⟨#HI, -, -⟩
  iapply (inv_at m ρ K (c, k))
  iexact HI

theorem ctx_reached (c : Dev nD) (k : Kx) : Ctx m ρ K ⊢ reached ER (kcell (c, k)) 0 := by
  unfold Ctx
  iintro ⟨-, #HI, -⟩
  iapply (reached_at (F := F) (c, k))
  iexact HI

theorem ctx_mayWait (c : Dev nD) (sm : SemLoc sig) (l : List (Fin 21))
    (h : ∀ s ∈ l, lv ((c : Thread nD τ), sm) () < 2 + rn s) :
    Ctx m ρ K ⊢ MayWait (c : Thread nD τ) sm () (Orem c l) := by
  unfold Ctx
  iintro ⟨-, -, #HI⟩
  iapply (mayWait_Orem c sm l h)
  iexact HI

/-- What a device owes, whatever it has waited for. -/
def owesAny (c : Dev nD) (O : CellTallies nD τ sig Unit) : sProp 𝕄 := iprop(∃ W, owes (c : Thread nD τ) O W)

/-- What a slot's exchange starts from. -/
def Unsent (c : Dev nD) (s : Fin 21) : sProp 𝕄 :=
  iprop(slotAny (pr (mi s) c) s ∗ dutyTok ER (sndCell c s) 0 0 ∗ dutyTok ER (rcvCell (pr (mi s) c) s) 0 0
    ∗ atPos ER (sndCell c s) 0 ∅ 0 ∗ atPos ER (rcvCell c s) 0 ∅ 0 ∗ cred (tallyAt (rcvCell c s) () N))

/-- The same once the copy is under way. -/
def Flight (c : Dev nD) (s : Fin 21) : sProp 𝕄 :=
  iprop(atPos ER (sndCell c s) 0 ∅ 0 ∗ atPos ER (rcvCell c s) 0 ∅ 0 ∗ cred (tallyAt (rcvCell c s) () N)
    ∗ cred (tallyAt (sndCell c s) () N))

/-- What a slot's exchange leaves: both counters at zero, the own slot. -/
def Done (c : Dev nD) (s : Fin 21) : sProp 𝕄 :=
  iprop(semVal (sndCell c s) 0 ∗ semVal (rcvCell c s) 0 ∗ slotAny c s)

abbrev wpB (c : Dev nD) {α : Type} (p : Pr F α) (Q : α → sProp 𝕄) : sProp 𝕄 :=
  wp frame (wpE (defs₀ (F := F)) 𝒱₀ (c : Thread nD τ) none) Set.univ p Q

abbrev kW : (kM : Memref sig .tc .vmem S256x128 .bf16).IsWhole := Memref.isWhole_whole _
abbrev cW : (cM : Memref sig .tc .vmem S21x256x128 .bf16).IsWhole := Memref.isWhole_whole _

/-! ## Copies -/

theorem send_step {α : Type} {Q : α → sProp 𝕄} (c n : Dev nD) (s : Fin 21) (hn : n = pr (mi s) c) (l : List (Fin 21)) (k : PUnit → Pr F α) :
    iprop((Ctx m ρ K ∗ blkPts c (shr s) (B m ρ (rn s) c) ∗ Unsent c s ∗ owesAny c (Orem c (s :: l)))
      ∗ ((Flight c s ∗ owesAny c (Orem c l)) -∗ wpB c (k ⟨⟩) Q))
    ⊢ wpB c (sendP kM kW cM cW cc0_scratch2 cc0_scratch3 s n >>= k) Q := by
  subst hn
  unfold sendP Unsent Flight owesAny slotAny
  simp only [Prog.bind_lift]
  iintro ⟨⟨#HC, Hb, ⟨⟨%fd, Hs⟩, HtS, HtR, HaS, HaR, HcR⟩, ⟨%W, HO⟩⟩, Hk⟩
  unfold blkPts
  iapply (Rounds.wp_send_pointsTo 𝒱₀ ER (Rd m ρ) (c : Thread nD τ) none (κ₁ := K (c, .inr (.inl s)))
      (κ₂ := K (pr (mi s) c, .inr (.inr s))) (r₁ := 0) (r₂ := 0) (d₁ := 0) (d₂ := 0) (fd := fd)
      (by rw [duties_snd]; exact Finset.mem_singleton_self _) (by rw [duties_rcv]; exact Finset.mem_singleton_self _)
      () () N (by exact slot_credit s) (amount_snd m ρ c s 0) (amount_rcv m ρ (pr (mi s) c) s 0) (Orem c l) rfl (W := W)
      (by rw [payload_snd]; exact BI.Entails.refl _)
      (by
        rw [payload_rcv, pr_pr]
        unfold slotPts
        iintro H
        iexists ((slotM cM s).view.write (Elt F) fd
          ((kM : Memref sig .tc .vmem S256x128 .bf16).view.read (Elt F) (B m ρ (rn s) c)) Finset.univ)
        isplitr
        · ipureintro; exact View.read_write_univ _ _
        · iexact H)) $$ [Hb Hs HtS HtR HO]
  · isplitr; · iapply (ctx_inv m ρ K c (.inr (.inl s))); iexact HC
    isplitr; · iapply (ctx_inv m ρ K (pr (mi s) c) (.inr (.inr s))); iexact HC
    isplitl [Hb]; · iexact Hb
    isplitl [Hs]; · iexact Hs
    isplitl [HO]; · iexact HO
    isplitl [HtS]; · iexact HtS
    isplitr; · iapply (ctx_reached m ρ K c (.inr (.inl s))); iexact HC
    isplitl [HtR]; · iexact HtR
    iapply (ctx_reached m ρ K (pr (mi s) c) (.inr (.inr s))); iexact HC
  iintro ⟨HcS, HO⟩
  iapply Hk
  isplitr [HO]
  · isplitl [HaS]; · iexact HaS
    isplitl [HaR]; · iexact HaR
    isplitl [HcR] <;> iassumption
  · iexists W; iexact HO

theorem wait_step {α : Type} {Q : α → sProp 𝕄} (c : Dev nD) (s : Fin 21) (l : List (Fin 21)) (hl : ∀ s' ∈ l, rn s < rn s') (k : PUnit → Pr F α) :
    iprop((Ctx m ρ K ∗ Flight c s ∗ owesAny c (Orem c l))
      ∗ ((blkPts c (shr s) (B m ρ (rn s) c) ∗ (semVal (sndCell c s) 0 ∗ semVal (rcvCell c s) 0)
          ∗ slotPts c s (B m ρ (rn s) (pr (mi s) c)) ∗ owesAny c (Orem c l)) -∗ wpB c (k ⟨⟩) Q))
    ⊢ wpB c (waitSendP kM kW cM cW cc0_scratch2 s >>= fun _ => waitRecvP kM kW cM cW cc0_scratch3 s >>= k) Q := by
  unfold waitSendP waitRecvP Flight owesAny
  simp only [Prog.bind_lift]
  iintro ⟨⟨#HC, ⟨HaS, HaR, HcR, HcS⟩, ⟨%W, HO⟩⟩, Hk⟩
  iapply (Rounds.wp_wait_rest_token 𝒱₀ ER (Rd m ρ) (c : Thread nD τ) none (κ := K (c, .inr (.inl s)))
      (wpE_waitDma2_eq 𝒱₀ (c : Thread nD τ) none Set.univ) (Set.mem_univ _) () (O := Orem c l) (W := W) (R := 0) (m := 0) (T := ∅)
      ((Nat.zero_add _).trans (expect_snd m ρ c s).symm)) $$ [HcS HO HaS]
  · isplitr; · iapply (ctx_inv m ρ K c (.inr (.inl s))); iexact HC
    isplitl [HcS]; · iexact HcS
    isplitl [HO]; · iexact HO
    isplitr
    · iapply (ctx_mayWait m ρ K c (.dma (semM cc0_scratch2 s).sem) l (fun s' _ => by rw [lv_snd]; omega))
      iexact HC
    iexact HaS
  iintro ⟨HO, HaS, -, Hpay⟩
  ihave Hb := (Entails.of_eq (rest_snd m ρ c s)) $$ Hpay
  iapply (Rounds.wp_wait_rest_token 𝒱₀ ER (Rd m ρ) (c : Thread nD τ) none (κ := K (c, .inr (.inr s)))
      (wpE_waitDma2_eq 𝒱₀ (c : Thread nD τ) none Set.univ) (Set.mem_univ _) () (O := Orem c l)
      (W := insert (SemLoc.dma (semM cc0_scratch2 s).sem, ()) W) (R := 0) (m := 0) (T := ∅)
      ((Nat.zero_add _).trans ((slot_credit s).trans (expect_rcv m ρ c s).symm))) $$ [HcR HO HaR]
  · isplitr; · iapply (ctx_inv m ρ K c (.inr (.inr s))); iexact HC
    isplitl [HcR]; · iexact HcR
    isplitl [HO]; · iexact HO
    isplitr
    · iapply (ctx_mayWait m ρ K c (.dma (semM cc0_scratch3 s).sem) l (fun s' hs => by rw [lv_rcv]; have := hl s' hs; omega))
      iexact HC
    iexact HaR
  iintro ⟨HO, HaR, -, Hpay⟩
  ihave Hs := (Entails.of_eq (rest_rcv m ρ c s)) $$ Hpay
  imod (Rounds.cell_close ER (Rd m ρ) (Set.mem_univ (K (c, .inr (.inl s)))) (fun h => h) (R := 0 + 1)
    (duties_later m ρ (sndCell c s))) $$ [HaS] with HzS
  · isplitr; · iapply (ctx_inv m ρ K c (.inr (.inl s))); iexact HC
    iexact HaS
  imod (Rounds.cell_close ER (Rd m ρ) (Set.mem_univ (K (c, .inr (.inr s)))) (fun h => h) (R := 0 + 1)
    (duties_later m ρ (rcvCell c s))) $$ [HaR] with HzR
  · isplitr; · iapply (ctx_inv m ρ K c (.inr (.inr s))); iexact HC
    iexact HaR
  iapply Hk
  isplitl [Hb]; · iexact Hb
  isplitl [HzS HzR]
  · isplitl [HzS] <;> iassumption
  isplitl [Hs]; · iexact Hs
  iexists _; iexact HO

/-! ## Loads and stores -/

theorem hz : (![0, 0] : Fin 2 → Nat) = fun _ => 0 := funext fun a => by fin_cases a <;> rfl

theorem load_step {α : Type} {Q : α → sProp 𝕄} (c : Dev nD) (v : Blk F) (k : Vec F S256x128 .bf16 → Pr F α) :
    iprop(blkPts c fullShare v ∗ (blkPts c fullShare v -∗ wpB c (k v) Q)) ⊢ wpB c (loadP kM >>= k) Q := by
  unfold loadP blkPts
  simp only [Prog.bind_lift]
  iintro ⟨Hb, Hk⟩
  iapply (wp_load 𝒱₀ (c : Thread nD τ) none Set.univ (m := kM) (by rw [View.set_whole]; exact Finset.subset_univ _)) $$ Hb
  iintro Hb
  rw [show (kM : Memref sig .tc .vmem S256x128 .bf16).view.readAt (Elt F) rB.toLoadRect v = v from
    Memref.readAt_unit_zero (Elt F) cc0_scratch0 hz _ v]
  iapply Hk; iexact Hb

theorem store_step {α : Type} {Q : α → sProp 𝕄} (c : Dev nD) (v w : Blk F) (k : PUnit → Pr F α) :
    iprop(blkPts c fullShare v ∗ (blkPts c fullShare w -∗ wpB c (k ⟨⟩) Q)) ⊢ wpB c (storeP kM kW w >>= k) Q := by
  unfold storeP blkPts
  simp only [Prog.bind_lift]
  iintro ⟨Hb, Hk⟩
  iapply (wp_store 𝒱₀ (c : Thread nD τ) none Set.univ (m := kM) (r := rB) (Mk := Finset.univ)
    (by rw [View.set_whole]; exact Finset.subset_univ _)) $$ Hb
  iintro Hb
  rw [show ((kM : Memref sig .tc .vmem S256x128 .bf16).access rB : View sig .tc _ _ _).write (Elt F) v w Finset.univ = w from
    Memref.write_access_unit_zero_univ (Elt F) cc0_scratch0 hz _ v w]
  iapply Hk; iexact Hb

theorem slot_set (s : Fin 21) : (slotM cM s).view.set
    = (cM : Memref sig .tc .vmem S21x256x128 .bf16).view.setOn
      (Rect.unit (s := S21x256x128) ![(s : ℕ), 0, 0] S1x256x128.size (slot_inb s)).toLoadRect.set := by
  show (((cM : Memref sig .tc .vmem S21x256x128 .bf16).view.slice _).reshape S256x128 _).set = _
  rw [View.set_reshape]
  exact View.set_slice _ _

theorem slot_step {α : Type} {Q : α → sProp 𝕄} (c : Dev nD) (s : Fin 21) (X : Blk F) (k : Vec F S1x256x128 .bf16 → Pr F α) :
    iprop(slotPts c s X ∗ (∀ t, ⌜unslot t = X⌝ -∗ slotPts c s X -∗ wpB c (k t) Q)) ⊢ wpB c (slotP cM s >>= k) Q := by
  unfold slotP slotPts
  simp only [Prog.bind_lift]
  iintro ⟨⟨%f, %hf, Hb⟩, Hk⟩
  iapply (wp_load 𝒱₀ (c : Thread nD τ) none Set.univ (m := cM) (S := (slotM cM s).view.set) (f := f)
    (by rw [slot_set])) $$ Hb
  iintro Hb
  iapply Hk $$ %_ [] [Hb]
  · ipureintro; rw [← hf]; rfl
  · iexists f
    isplitr; · ipureintro; exact hf
    iexact Hb

end Cert.Proof
-- ==== Proof.Rounds.lean ====
module

public import proofs.«01_k».proof.Proof.Steps

@[expose] public section

/-! # Rounds and the whole program of one device -/

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kx → ℕ)

/-! ## Slots by distance and in order -/

theorem slotsAny_eq (c : Dev nD) (l : List (Fin 21)) : slotsAny (F := F) c l = bigSepL l (slotAny c) := by
  induction l with
  | nil => rfl
  | cons s l ih => rw [bigSepL_cons', ← ih]; rfl

theorem bigSepL_flat (Φ : Fin 21 → sProp 𝕄) (li : List (Fin 9)) :
    bigSepL li (fun i => bigSepL (slotsOf i) Φ) = bigSepL (li.flatMap slotsOf) Φ := by
  induction li with
  | nil => rfl
  | cons i l ih => rw [bigSepL_cons', ih, List.flatMap_cons, bigSepL_append]

theorem slots_regroup (Φ : Fin 21 → sProp 𝕄) :
    (bigSep Finset.univ fun i => bigSepL (slotsOf i) Φ) = bigSep Finset.univ Φ := by
  rw [bigSep_univ_eq_bigSepL allI (by decide) (by decide), bigSepL_flat,
    ← bigSep_univ_eq_bigSepL (allI.flatMap slotsOf) (by decide) (by decide)]

theorem slots_all (Φ : Fin 21 → sProp 𝕄) : bigSep Finset.univ Φ = bigSepL allS Φ :=
  bigSep_univ_eq_bigSepL allS (by decide) (by decide) Φ

theorem mi_slotsOf (i : Fin 9) : ∀ s ∈ slotsOf i, mi s = i := by revert i; decide

theorem slots_of_peers (c : Dev nD) :
    (bigSep Finset.univ fun d => slotsAny (F := F) (pr d c) (slotsOf d)) = bigSepL allS fun s => slotAny (pr (mi s) c) s := by
  rw [← slots_all, ← slots_regroup]
  refine bigSep_congr fun i _ => ?_
  rw [slotsAny_eq]
  have h : ∀ l : List (Fin 21), (∀ s ∈ l, mi s = i) →
      bigSepL l (slotAny (F := F) (pr i c)) = bigSepL l (fun s => slotAny (pr (mi s) c) s) := by
    intro l hl
    induction l with
    | nil => rfl
    | cons s l ih =>
      rw [bigSepL_cons', bigSepL_cons', ih fun s hs => hl s (List.mem_cons_of_mem _ hs), hl s List.mem_cons_self]
  exact h _ (mi_slotsOf i)

/-! ## The barrier -/

/-- What the signals of a list of distances hand over. -/
def SigT (c : Dev nD) (i : Fin 9) : sProp 𝕄 :=
  iprop(dutyTok ER (barCell (pr i c)) 0 i ∗ slotsAny c (slotsOf i))

theorem signal_step {α : Type} {Q : α → sProp 𝕄} (c n : Dev nD) (i : Fin 9) (hn : n = pr i c) (l : List (Fin 9))
    (k : PUnit → Pr F α) :
    iprop((Ctx m ρ K ∗ bigSepL (i :: l) (SigT c) ∗ owesAny c (Osig c (i :: l)))
      ∗ ((bigSepL l (SigT c) ∗ owesAny c (Osig c l)) -∗ wpB c (k ⟨⟩) Q))
    ⊢ wpB c (semSignalWord n barS 1#32 >>= k) Q := by
  subst hn
  rw [bigSepL_cons']
  unfold owesAny SigT
  simp only [semSignalWord, Prog.bind_lift]
  iintro ⟨⟨#HC, ⟨⟨Ht, Hs⟩, Hl⟩, ⟨%W, HO⟩⟩, Hk⟩
  iapply (Rounds.wp_signal 𝒱₀ ER (Rd m ρ) (c : Thread nD τ) none (dst := (pr i c : Thread nD τ)) (κ := K (pr i c, .inl ()))
      (d := i) (by rw [duties_bar]; exact Finset.mem_univ _) ((amount_bar m ρ (pr i c) i).trans (by decide)) () (Osig c l) rfl)
    $$ [HO Ht Hs]
  · isplitr; · iapply (ctx_inv m ρ K (pr i c) (.inl ())); iexact HC
    isplitl [HO]; · iexact HO
    isplitl [Ht]; · iexact Ht
    isplitl [Hs]; · rw [payload_bar, pr_pr]; iexact Hs
    iapply (ctx_reached m ρ K (pr i c) (.inl ())); iexact HC
  iintro HO
  iapply Hk
  isplitl [Hl]; · iexact Hl
  iexists W; iexact HO

theorem barrier_step {α : Type} {Q : α → sProp 𝕄} (c : Dev nD) (k : PUnit → Pr F α) :
    iprop((Ctx m ρ K ∗ atPos ER (barCell c) 0 ∅ 0 ∗ cred (tallyAt (barCell c) () 9) ∗ owesAny c (Orem c allS))
      ∗ ((semVal (barCell c) 0 ∗ (bigSepL allS fun s => slotAny (pr (mi s) c) s) ∗ owesAny c (Orem c allS))
          -∗ wpB c (k ⟨⟩) Q))
    ⊢ wpB c (semWaitWord barS 9#32 >>= k) Q := by
  unfold owesAny
  simp only [semWaitWord, Prog.bind_lift]
  iintro ⟨⟨#HC, Ha, Hc, ⟨%W, HO⟩⟩, Hk⟩
  iapply (Rounds.wp_wait_rest_token 𝒱₀ ER (Rd m ρ) (c : Thread nD τ) none (κ := K (c, .inl ()))
      (wpE_semWait_eq 𝒱₀ (c : Thread nD τ) none Set.univ) (Set.mem_univ _) () (O := Orem c allS) (W := W) (R := 0) (m := 0) (T := ∅)
      (by rw [expect_bar]; decide)) $$ [Hc HO Ha]
  · isplitr; · iapply (ctx_inv m ρ K c (.inl ())); iexact HC
    isplitl [Hc]; · iexact Hc
    isplitl [HO]; · iexact HO
    isplitr
    · iapply (ctx_mayWait m ρ K c (.reg barS) allS (fun s _ => by rw [lv_bar]; omega))
      iexact HC
    iexact Ha
  iintro ⟨HO, Ha, -, Hpay⟩
  ihave Hs := (Entails.of_eq ((rest_bar m ρ c).trans (slots_of_peers c))) $$ Hpay
  imod (Rounds.cell_close ER (Rd m ρ) (Set.mem_univ (K (c, .inl ()))) (fun h => h) (R := 0 + 1)
    (duties_later m ρ (barCell c))) $$ [Ha] with Hz
  · isplitr; · iapply (ctx_inv m ρ K c (.inl ())); iexact HC
    iexact Ha
  iapply Hk
  isplitl [Hz]; · iexact Hz
  isplitl [Hs]; · iexact Hs
  iexists _; iexact HO

/-! ## Rounds -/

/-- Between rounds: the slots still to use, those used, the block. -/
def St (c : Dev nD) (l dn : List (Fin 21)) (v : Blk F) : sProp 𝕄 :=
  iprop(bigSepL l (Unsent c) ∗ bigSepL dn (Done c) ∗ blkPts c fullShare v ∗ owesAny c (Orem c l))

theorem done_intro (c : Dev nD) (s : Fin 21) (X : Blk F) :
    iprop((semVal (sndCell c s) 0 ∗ semVal (rcvCell c s) 0) ∗ slotPts c s X) ⊢ Done (F := F) c s := by
  unfold Done slotPts slotAny
  iintro ⟨⟨H1, H2⟩, ⟨%f, -, H3⟩⟩
  isplitl [H1]; · iexact H1
  isplitl [H2]; · iexact H2
  iexists f; iexact H3

theorem round1_spec {α : Type} {Q : α → sProp 𝕄} (r : ℕ) (c n : Dev nD) (s : Fin 21) (hn : n = pr (mi s) c)
    (hs : shr s = fullShare) (hr : rn s = r) (l dn : List (Fin 21)) (hl : ∀ s' ∈ l, rn s < rn s')
    (f : Vec F S256x128 .bf16 → Vec F S1x256x128 .bf16 → FVec F S256x128 .bf16) (w : Blk F)
    (hf : ∀ t, unslot t = B m ρ r (pr (mi s) c) → f (B m ρ r c) t = w) (k : PUnit → Pr F α) :
    iprop((Ctx m ρ K ∗ St c (s :: l) dn (B m ρ r c)) ∗ (St c l (s :: dn) w -∗ wpB c (k ⟨⟩) Q))
    ⊢ wpB c (round1 kM kW cM cW cc0_scratch2 cc0_scratch3 s n f >>= k) Q := by
  subst hr
  unfold round1 St
  simp only [Prog.bind_assoc]
  rw [bigSepL_cons', bigSepL_cons']
  iintro ⟨⟨#HC, ⟨Hu, Hl⟩, Hd, Hb, HO⟩, Hk⟩
  iapply (send_step m ρ K c n s hn l)
  isplitl [Hu Hb HO]
  · isplitr; · iexact HC
    rw [hs]
    isplitl [Hb]; · iexact Hb
    isplitl [Hu] <;> iassumption
  iintro ⟨Hf, HO⟩
  iapply (wait_step m ρ K c s l hl)
  isplitl [Hf HO]
  · isplitr; · iexact HC
    isplitl [Hf] <;> iassumption
  iintro ⟨Hb, Hz, Hs, HO⟩
  rw [hs]
  iapply (load_step c (B m ρ (rn s) c))
  isplitl [Hb]; · iexact Hb
  iintro Hb
  iapply (slot_step c s)
  isplitl [Hs]; · iexact Hs
  iintro %t %ht Hs
  iapply (load_step c (B m ρ (rn s) c))
  isplitl [Hb]; · iexact Hb
  iintro Hb
  iapply (store_step c (B m ρ (rn s) c))
  isplitl [Hb]; · iexact Hb
  iintro Hb
  rw [hf t ht]
  iapply Hk
  isplitl [Hl]; · iexact Hl
  isplitl [Hz Hs Hd]
  · isplitl [Hz Hs]
    · iapply (done_intro c s)
      isplitl [Hz] <;> iassumption
    · iexact Hd
  isplitl [Hb] <;> iassumption

theorem blk_thirds (c : Dev nD) (v : Blk F) :
    blkPts c fullShare v ⊣⊢ iprop(blkPts c (shares3 fullShare 0) v ∗ blkPts c (shares3 fullShare 1) v
      ∗ blkPts c (shares3 fullShare 2) v) := pointsTo_thirds _ _

theorem round3_spec {α : Type} {Q : α → sProp 𝕄} (r : ℕ) (c n n' n'' : Dev nD) (s s' s'' : Fin 21) (hn : n = pr (mi s) c)
    (hn' : n' = pr (mi s') c) (hn'' : n'' = pr (mi s'') c)
    (hs : shr s = shares3 fullShare 0) (hs' : shr s' = shares3 fullShare 1) (hs'' : shr s'' = shares3 fullShare 2)
    (hr' : rn s' = rn s) (hr'' : rn s'' = rn s)
    (hr : rn s = r) (l dn : List (Fin 21)) (hl : ∀ q ∈ l, rn s < rn q)
    (f : Vec F S256x128 .bf16 → Vec F S1x256x128 .bf16 → Vec F S1x256x128 .bf16 → Vec F S1x256x128 .bf16 →
      FVec F S256x128 .bf16) (w : Blk F)
    (hf : ∀ t t' t'', unslot t = B m ρ r (pr (mi s) c) → unslot t' = B m ρ r (pr (mi s') c) →
      unslot t'' = B m ρ r (pr (mi s'') c) → f (B m ρ r c) t t' t'' = w) (k : PUnit → Pr F α) :
    iprop((Ctx m ρ K ∗ St c (s :: s' :: s'' :: l) dn (B m ρ r c))
      ∗ (St c l (s'' :: s' :: s :: dn) w -∗ wpB c (k ⟨⟩) Q))
    ⊢ wpB c (round3 kM kW cM cW cc0_scratch2 cc0_scratch3 s s' s'' n n' n'' f >>= k) Q := by
  subst hr
  unfold round3 St
  simp only [Prog.bind_assoc]
  simp only [bigSepL_cons']
  iintro ⟨⟨#HC, ⟨Hu, Hu', Hu'', Hl⟩, Hd, Hb, HO⟩, Hk⟩
  ihave Hb := (blk_thirds c _).1 $$ Hb
  icases Hb with ⟨Hb, Hb', Hb''⟩
  iapply (send_step m ρ K c n s hn (s' :: s'' :: l))
  isplitl [Hu Hb HO]
  · isplitr; · iexact HC
    rw [hs]
    isplitl [Hb]; · iexact Hb
    isplitl [Hu] <;> iassumption
  iintro ⟨Hf, HO⟩
  iapply (send_step m ρ K c n' s' hn' (s'' :: l))
  isplitl [Hu' Hb' HO]
  · isplitr; · iexact HC
    rw [hs', hr']
    isplitl [Hb']; · iexact Hb'
    isplitl [Hu'] <;> iassumption
  iintro ⟨Hf', HO⟩
  iapply (send_step m ρ K c n'' s'' hn'' l)
  isplitl [Hu'' Hb'' HO]
  · isplitr; · iexact HC
    rw [hs'', hr'']
    isplitl [Hb'']; · iexact Hb''
    isplitl [Hu''] <;> iassumption
  iintro ⟨Hf'', HO⟩
  iapply (wait_step m ρ K c s l hl)
  isplitl [Hf HO]
  · isplitr; · iexact HC
    isplitl [Hf] <;> iassumption
  iintro ⟨Hb, Hz, Hs, HO⟩
  iapply (wait_step m ρ K c s' l (by rw [hr']; exact hl))
  isplitl [Hf' HO]
  · isplitr; · iexact HC
    isplitl [Hf'] <;> iassumption
  iintro ⟨Hb', Hz', Hs', HO⟩
  iapply (wait_step m ρ K c s'' l (by rw [hr'']; exact hl))
  isplitl [Hf'' HO]
  · isplitr; · iexact HC
    isplitl [Hf''] <;> iassumption
  iintro ⟨Hb'', Hz'', Hs'', HO⟩
  rw [hs, hs', hs'', hr', hr'']
  ihave Hb := (blk_thirds c _).2 $$ [Hb Hb' Hb'']
  · isplitl [Hb]; · iexact Hb
    isplitl [Hb'] <;> iassumption
  iapply (load_step c (B m ρ (rn s) c))
  isplitl [Hb]; · iexact Hb
  iintro Hb
  iapply (slot_step c s)
  isplitl [Hs]; · iexact Hs
  iintro %t %ht Hs
  iapply (slot_step c s')
  isplitl [Hs']; · iexact Hs'
  iintro %t' %ht' Hs'
  iapply (slot_step c s'')
  isplitl [Hs'']; · iexact Hs''
  iintro %t'' %ht'' Hs''
  iapply (load_step c (B m ρ (rn s) c))
  isplitl [Hb]; · iexact Hb
  iintro Hb
  iapply (store_step c (B m ρ (rn s) c))
  isplitl [Hb]; · iexact Hb
  iintro Hb
  rw [hf t t' t'' ht ht' ht'']
  iapply Hk
  isplitl [Hl]; · iexact Hl
  isplitl [Hz Hs Hz' Hs' Hz'' Hs'' Hd]
  · isplitl [Hz'' Hs'']
    · iapply (done_intro c s'')
      isplitl [Hz''] <;> iassumption
    isplitl [Hz' Hs']
    · iapply (done_intro c s')
      isplitl [Hz'] <;> iassumption
    isplitl [Hz Hs]
    · iapply (done_intro c s)
      isplitl [Hz] <;> iassumption
    · iexact Hd
  isplitl [Hb] <;> iassumption

theorem merge_spec {α : Type} {Q : α → sProp 𝕄} (c : Dev nD) (asc : BitVec 1) (l dn : List (Fin 21)) (v w : Blk F)
    (hw : mergeB asc v = w) (k : PUnit → Pr F α) :
    iprop(St c l dn v ∗ (St c l dn w -∗ wpB c (k ⟨⟩) Q)) ⊢ wpB c (mergeP kM kW asc >>= k) Q := by
  subst hw
  unfold mergeP St
  simp only [Prog.bind_assoc]
  iintro ⟨⟨Hl, Hd, Hb, HO⟩, Hk⟩
  iapply (load_step c v)
  isplitl [Hb]; · iexact Hb
  iintro Hb
  iapply (load_step c v)
  isplitl [Hb]; · iexact Hb
  iintro Hb
  iapply (store_step c v)
  isplitl [Hb]; · iexact Hb
  iintro Hb
  iapply Hk
  isplitl [Hl]; · iexact Hl
  isplitl [Hd]; · iexact Hd
  isplitl [Hb] <;> iassumption

end Cert.Proof
-- ==== Proof.Body.lean ====
module

public import proofs.«01_k».proof.Proof.Rounds

@[expose] public section

/-! # The whole program of one device -/

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kx → ℕ)

/-- The staged input. -/
def xPts (c : Dev nD) : sProp 𝕄 := ((c : Thread nD τ).loc cc0_stg0_0) ↦{fullShare} xstg m ρ c

/-- The staged output at given contents. -/
def oPts (c : Dev nD) (v : FVec F S256x128 .f32) : sProp 𝕄 := ((c : Thread nD τ).loc cc0_stg1_0) ↦{fullShare} v

/-- The device's sorted block, as written out. -/
def outAt (c : Dev nD) : FVec F S256x128 .f32 := extf .f32 (B m ρ 9 c) bitsLt_bf16_f32

abbrev xW : (xM : Memref sig .tc .vmem S256x128 .bf16).IsWhole := Memref.isWhole_whole _
abbrev oW : (oM : Memref sig .tc .vmem S256x128 .f32).IsWhole := Memref.isWhole_whole _

theorem input_step {α : Type} {Q : α → sProp 𝕄} (c : Dev nD) (k : Vec F S256x128 .bf16 → Pr F α) :
    iprop(xPts m ρ c ∗ (xPts m ρ c -∗ wpB c (k (xstg m ρ c)) Q)) ⊢ wpB c (loadP xM >>= k) Q := by
  unfold loadP xPts
  simp only [Prog.bind_lift]
  iintro ⟨Hb, Hk⟩
  iapply (wp_load 𝒱₀ (c : Thread nD τ) none Set.univ (m := xM) (Finset.subset_univ _)) $$ Hb
  iintro Hb
  rw [show (xM : Memref sig .tc .vmem S256x128 .bf16).view.readAt (Elt F) rB.toLoadRect (xstg m ρ c) = xstg m ρ c from
    Memref.readAt_unit_zero (Elt F) cc0_stg0_0 hz _ _]
  iapply Hk; iexact Hb

theorem finish_step {Q : PUnit → sProp 𝕄} (c : Dev nD) (v : Blk F) (o : FVec F S256x128 .f32) :
    iprop((blkPts c fullShare v ∗ oPts c o)
      ∗ ((blkPts c fullShare v ∗ oPts c (extf .f32 v bitsLt_bf16_f32)) -∗ Q ⟨⟩)) ⊢ wpB c (finishP oM kM) Q := by
  unfold finishP
  iintro ⟨⟨Hb, Ho⟩, Hk⟩
  iapply (load_step c v)
  isplitl [Hb]; · iexact Hb
  iintro Hb
  unfold oPts
  simp only [Prog.bind_lift]
  iapply (wp_load 𝒱₀ (c : Thread nD τ) none Set.univ (m := oM) (Finset.subset_univ _)) $$ Ho
  iintro Ho
  unfold Prog.lift
  iapply (wp_store 𝒱₀ (c : Thread nD τ) none Set.univ (m := oM) (r := rB) (Mk := Finset.univ) (Finset.subset_univ _)) $$ Ho
  iintro Ho
  rw [show ((oM : Memref sig .tc .vmem S256x128 .f32).access rB : View sig .tc _ _ _).write (Elt F) o
      (extf .f32 v bitsLt_bf16_f32) Finset.univ = extf .f32 v bitsLt_bf16_f32 from
    Memref.write_access_unit_zero_univ (Elt F) cc0_stg1_0 hz _ o _, wp_ret]
  imodintro
  iapply Hk
  isplitl [Hb] <;> iassumption

/-- The exchanges, from the block first stored to the sorted one. -/
theorem rounds_spec {α : Type} {Q : α → sProp 𝕄} (c : Dev nD) (k : PUnit → Pr F α) :
    iprop((Ctx m ρ K ∗ St c allS [] (B m ρ 0 c)) ∗ (St c [] allS.reverse (B m ρ 9 c) -∗ wpB c (k ⟨⟩) Q))
    ⊢ wpB c (roundsP kM kW cM cW cc0_scratch2 cc0_scratch3 c >>= k) Q := by
  unfold roundsP allS
  simp only [Prog.bind_assoc]
  iintro ⟨⟨#HC, H⟩, Hk⟩
  -- round 0
  iapply (round1_spec m ρ K 0 c _ 0 (by revert c; decide +kernel) rfl rfl [1, 2, 3, 4, 5, 6, 7, 8, 9, 10, 11, 12, 13, 14, 15, 16, 17, 18, 19, 20] _ (by decide) _ (mixR1 0 1#32 2#32 (B m ρ 0) c)
    (fun t h => by unfold mix1; rw [h]; rfl))
  isplitl [H]; · isplitr <;> iassumption
  iintro H
  iapply (merge_spec c _ _ _ _ (B m ρ 1 c) rfl)
  isplitl [H]; · iexact H
  iintro H
  -- round 1
  iapply (round3_spec m ρ K 1 c _ _ _ 1 2 3 (by revert c; decide +kernel) (by revert c; decide +kernel)
    (by revert c; decide +kernel) rfl rfl rfl rfl rfl rfl [4, 5, 6, 7, 8, 9, 10, 11, 12, 13, 14, 15, 16, 17, 18, 19, 20] _ (by decide) _ (mixR3 0 1 2 1#32 2#32 4#32 (B m ρ 1) c)
    (fun t t' t'' h h' h'' => by unfold mix3; rw [h, h', h'']; rfl))
  isplitl [H]; · isplitr <;> iassumption
  iintro H
  iapply (merge_spec c _ _ _ _ (B m ρ 2 c) rfl)
  isplitl [H]; · iexact H
  iintro H
  -- rounds 2 and 3
  iapply (round3_spec m ρ K 2 c _ _ _ 4 5 6 (by revert c; decide +kernel) (by revert c; decide +kernel)
    (by revert c; decide +kernel) rfl rfl rfl rfl rfl rfl [7, 8, 9, 10, 11, 12, 13, 14, 15, 16, 17, 18, 19, 20] _ (by decide) _ (B m ρ 3 c)
    (fun t t' t'' h h' h'' => by unfold mix3; rw [h, h', h'']; rfl))
  isplitl [H]; · isplitr <;> iassumption
  iintro H
  iapply (round1_spec m ρ K 3 c _ 7 (by revert c; decide +kernel) rfl rfl [8, 9, 10, 11, 12, 13, 14, 15, 16, 17, 18, 19, 20] _ (by decide) _ (mixR1 0 1#32 8#32 (B m ρ 3) c)
    (fun t h => by unfold mix1; rw [h]; rfl))
  isplitl [H]; · isplitr <;> iassumption
  iintro H
  iapply (merge_spec c _ _ _ _ (B m ρ 4 c) rfl)
  isplitl [H]; · iexact H
  iintro H
  -- rounds 4 and 5
  iapply (round3_spec m ρ K 4 c _ _ _ 8 9 10 (by revert c; decide +kernel) (by revert c; decide +kernel)
    (by revert c; decide +kernel) rfl rfl rfl rfl rfl rfl [11, 12, 13, 14, 15, 16, 17, 18, 19, 20] _ (by decide) _ (B m ρ 5 c)
    (fun t t' t'' h h' h'' => by unfold mix3; rw [h, h', h'']; rfl))
  isplitl [H]; · isplitr <;> iassumption
  iintro H
  iapply (round3_spec m ρ K 5 c _ _ _ 11 12 13 (by revert c; decide +kernel) (by revert c; decide +kernel)
    (by revert c; decide +kernel) rfl rfl rfl rfl rfl rfl [14, 15, 16, 17, 18, 19, 20] _ (by decide) _ (mixR3 0 1 2 1#32 2#32 16#32 (B m ρ 5) c)
    (fun t t' t'' h h' h'' => by unfold mix3; rw [h, h', h'']; rfl))
  isplitl [H]; · isplitr <;> iassumption
  iintro H
  iapply (merge_spec c _ _ _ _ (B m ρ 6 c) rfl)
  isplitl [H]; · iexact H
  iintro H
  -- rounds 6 to 8
  iapply (round3_spec m ρ K 6 c _ _ _ 14 15 16 (by revert c; decide +kernel) (by revert c; decide +kernel)
    (by revert c; decide +kernel) rfl rfl rfl rfl rfl rfl [17, 18, 19, 20] _ (by decide) _ (B m ρ 7 c)
    (fun t t' t'' h h' h'' => by unfold mix3; rw [h, h', h'']; rfl))
  isplitl [H]; · isplitr <;> iassumption
  iintro H
  iapply (round3_spec m ρ K 7 c _ _ _ 17 18 19 (by revert c; decide +kernel) (by revert c; decide +kernel)
    (by revert c; decide +kernel) rfl rfl rfl rfl rfl rfl [20] _ (by decide) _ (B m ρ 8 c)
    (fun t t' t'' h h' h'' => by unfold mix3; rw [h, h', h'']; rfl))
  isplitl [H]; · isplitr <;> iassumption
  iintro H
  iapply (round1_spec m ρ K 8 c _ 20 (by revert c; decide +kernel) rfl rfl [] _ (by decide) _ (mixR1 0 1#32 32#32 (B m ρ 8) c)
    (fun t h => by unfold mix1; rw [h]; rfl))
  isplitl [H]; · isplitr <;> iassumption
  iintro H
  iapply (merge_spec c _ _ _ _ (B m ρ 9 c) rfl)
  isplitl [H]; · iexact H
  iintro H
  iapply Hk
  iexact H

/-- The nine signals and the wait. -/
theorem signals_spec {α : Type} {Q : α → sProp 𝕄} (c : Dev nD) (k : PUnit → Pr F α) :
    iprop((Ctx m ρ K ∗ bigSepL allI (SigT c) ∗ owesAny c (O₀ c) ∗ atPos ER (barCell c) 0 ∅ 0 ∗ cred (tallyAt (barCell c) () 9))
      ∗ ((semVal (barCell c) 0 ∗ (bigSepL allS fun s => slotAny (pr (mi s) c) s) ∗ owesAny c (Orem c allS))
          -∗ wpB c (k ⟨⟩) Q))
    ⊢ wpB c (signalsP c >>= k) Q := by
  unfold signalsP O₀ allI
  simp only [Prog.bind_assoc]
  iintro ⟨⟨#HC, Hl, HO, Ha, Hc⟩, Hk⟩
  iapply (signal_step m ρ K c _ 0 (by revert c; decide +kernel) _)
  isplitl [Hl HO]; · isplitr; · iexact HC
                     isplitl [Hl] <;> iassumption
  iintro ⟨Hl, HO⟩
  iapply (signal_step m ρ K c _ 1 (by revert c; decide +kernel) _)
  isplitl [Hl HO]; · isplitr; · iexact HC
                     isplitl [Hl] <;> iassumption
  iintro ⟨Hl, HO⟩
  iapply (signal_step m ρ K c _ 2 (by revert c; decide +kernel) _)
  isplitl [Hl HO]; · isplitr; · iexact HC
                     isplitl [Hl] <;> iassumption
  iintro ⟨Hl, HO⟩
  iapply (signal_step m ρ K c _ 3 (by revert c; decide +kernel) _)
  isplitl [Hl HO]; · isplitr; · iexact HC
                     isplitl [Hl] <;> iassumption
  iintro ⟨Hl, HO⟩
  iapply (signal_step m ρ K c _ 4 (by revert c; decide +kernel) _)
  isplitl [Hl HO]; · isplitr; · iexact HC
                     isplitl [Hl] <;> iassumption
  iintro ⟨Hl, HO⟩
  iapply (signal_step m ρ K c _ 5 (by revert c; decide +kernel) _)
  isplitl [Hl HO]; · isplitr; · iexact HC
                     isplitl [Hl] <;> iassumption
  iintro ⟨Hl, HO⟩
  iapply (signal_step m ρ K c _ 6 (by revert c; decide +kernel) _)
  isplitl [Hl HO]; · isplitr; · iexact HC
                     isplitl [Hl] <;> iassumption
  iintro ⟨Hl, HO⟩
  iapply (signal_step m ρ K c _ 7 (by revert c; decide +kernel) _)
  isplitl [Hl HO]; · isplitr; · iexact HC
                     isplitl [Hl] <;> iassumption
  iintro ⟨Hl, HO⟩
  iapply (signal_step m ρ K c _ 8 (by revert c; decide +kernel) _)
  isplitl [Hl HO]; · isplitr; · iexact HC
                     isplitl [Hl] <;> iassumption
  iintro ⟨Hl, HO⟩
  iapply (barrier_step m ρ K c)
  isplitl [Ha Hc HO]
  · isplitr; · iexact HC
    isplitl [Ha]; · iexact Ha
    isplitl [Hc]; · iexact Hc
    unfold Osig; iexact HO
  iexact Hk

/-- What a slot's exchange starts from, but the partner's slot. -/
def Mine (c : Dev nD) (s : Fin 21) : sProp 𝕄 :=
  iprop(dutyTok ER (sndCell c s) 0 0 ∗ dutyTok ER (rcvCell (pr (mi s) c) s) 0 0
    ∗ atPos ER (sndCell c s) 0 ∅ 0 ∗ atPos ER (rcvCell c s) 0 ∅ 0 ∗ cred (tallyAt (rcvCell c s) () N))

theorem unsent_intro (c : Dev nD) :
    iprop((bigSepL allS fun s => slotAny (pr (mi s) c) s) ∗ bigSep Finset.univ (Mine c)) ⊢ bigSepL allS (Unsent (F := F) c) := by
  rw [← slots_all, ← slots_all]
  exact Entails.of_eq (bigSep_sep' Finset.univ (fun s => slotAny (F := F) (pr (mi s) c) s) (Mine c)).symm

/-- What a device's program starts from. -/
def progPre (c : Dev nD) : sProp 𝕄 :=
  iprop(Ctx m ρ K ∗ bigSepL allI (SigT c) ∗ owesAny c (O₀ c) ∗ atPos ER (barCell c) 0 ∅ 0 ∗ cred (tallyAt (barCell c) () 9)
    ∗ bigSep Finset.univ (Mine c) ∗ (∃ v, blkPts c fullShare v) ∗ xPts m ρ c ∗ ∃ o, oPts c o)

/-- What it leaves. -/
def progPost (c : Dev nD) : sProp 𝕄 :=
  iprop(semVal (barCell c) 0 ∗ bigSep Finset.univ (Done c) ∗ owesAny c 0 ∗ (∃ v, blkPts c fullShare v) ∗ xPts m ρ c
    ∗ oPts c (outAt m ρ c))

theorem prog_spec {Q : PUnit → sProp 𝕄} (c : Dev nD) :
    iprop(progPre m ρ K c ∗ (progPost m ρ c -∗ Q ⟨⟩))
    ⊢ wpB c (sortP xM oM kM kW cM cW cc0_scratch2 cc0_scratch3) Q := by
  unfold sortP progPre
  simp only [Prog.bind_lift]
  unfold wpB
  rw [wp_deviceId]
  iintro ⟨⟨#HC, Hl, HO, Ha, Hc, Hm, ⟨%v, Hb⟩, Hx, ⟨%o, Ho⟩⟩, Hk⟩
  iapply (signals_spec m ρ K c)
  isplitl [Hl HO Ha Hc]
  · isplitr; · iexact HC
    isplitl [Hl]; · iexact Hl
    isplitl [HO]; · iexact HO
    isplitl [Ha] <;> iassumption
  iintro ⟨Hz, Hs, HO⟩
  iapply (input_step m ρ c)
  isplitl [Hx]; · iexact Hx
  iintro Hx
  iapply (load_step c v)
  isplitl [Hb]; · iexact Hb
  iintro Hb
  iapply (store_step c v)
  isplitl [Hb]; · iexact Hb
  iintro Hb
  iapply (rounds_spec m ρ K c)
  isplitl [Hs Hm HO Hb]
  · isplitr; · iexact HC
    unfold St
    isplitl [Hs Hm]
    · iapply (unsent_intro c)
      isplitl [Hs] <;> iassumption
    isplitr; · rw [bigSepL_nil]; iempintro
    isplitl [Hb]; · iexact Hb
    iexact HO
  iintro H
  unfold St
  icases H with ⟨-, Hd, Hb, HO⟩
  iapply (finish_step c (B m ρ 9 c) o)
  isplitl [Hb Ho]; · isplitl [Hb] <;> iassumption
  iintro ⟨Hb, Ho⟩
  iapply Hk
  unfold progPost outAt
  isplitl [Hz]; · iexact Hz
  isplitl [Hd]
  · rw [bigSep_univ_eq_bigSepL allS.reverse (by decide) (by decide)]; iexact Hd
  isplitl [HO]; · iexact HO
  isplitl [Hb]; · iexists _; iexact Hb
  isplitl [Hx] <;> iassumption

end Cert.Proof
-- ==== Proof.Deal.lean ====
module

public import proofs.«01_k».proof.Proof.Body

@[expose] public section

/-! # What the launch deals to each device

The cells and tokens minted at launch, the tokens dealt to the devices that pay with them, the
credit for what each device is owed, and the slot buffer cut into its slots. -/

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem kcell_injective : Function.Injective (kcell : Dev nD × Kx → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties of one device's cells: nine at the barrier, one at each side of each slot. -/
abbrev Jx : Type := Fin 9 ⊕ (Fin 21 ⊕ Fin 21)

def jcell : Jx → Kx × Fin 9
  | .inl i => (.inl (), i)
  | .inr k => (.inr k, 0)

theorem jcell_injective : Function.Injective jcell := by
  have h : ∀ j j' : Jx, jcell j = jcell j' → j = j' := by decide +kernel
  exact fun j j' => h j j'

def tokOf (cj : Dev nD × Jx) : GSem nD τ sig × ℕ × Fin 9 := (kcell (cj.1, (jcell cj.2).1), 0, (jcell cj.2).2)

theorem tokOf_injective : Function.Injective tokOf := by
  rintro ⟨c, j⟩ ⟨c', j'⟩ h
  have h1 := kcell_injective (congrArg Prod.fst h)
  have h2 : j = j' := jcell_injective (Prod.ext (congrArg Prod.snd h1) (congrArg (fun x => x.2.2) h))
  have h3 : c = c' := congrArg Prod.fst h1
  rw [h2, h3]

def allToks : Finset (GSem nD τ sig × ℕ × Fin 9) := Finset.univ.map ⟨tokOf, tokOf_injective⟩

def u₀ : UU :=
  (initOf (Pipeline.cells cfgs cellOf_inj) (Pipeline.launchToks cfgs cellOf_inj), initOf allCells allToks)

/-- The tokens of a device's own cells. -/
def toks (c : Dev nD) : sProp 𝕄 :=
  iprop((bigSep Finset.univ fun i : Fin 9 => dutyTok ER (barCell c) 0 i)
    ∗ (bigSep Finset.univ fun s : Fin 21 => dutyTok ER (sndCell c s) 0 0)
    ∗ bigSep Finset.univ fun s : Fin 21 => dutyTok ER (rcvCell c s) 0 0)

/-- The tokens a device pays with. -/
def payToks (c : Dev nD) : sProp 𝕄 :=
  iprop((bigSep Finset.univ fun i : Fin 9 => dutyTok ER (barCell (pr i c)) 0 i)
    ∗ (bigSep Finset.univ fun s : Fin 21 => dutyTok ER (sndCell c s) 0 0)
    ∗ bigSep Finset.univ fun s : Fin 21 => dutyTok ER (rcvCell (pr (mi s) c) s) 0 0)

/-- Every device's `i`th item goes to the device at distance `e i`. -/
def prE {I : Type} (e : I → Fin 9) : Dev nD × I ≃ Dev nD × I where
  toFun x := (pr (e x.2) x.1, x.2)
  invFun x := (pr (e x.2) x.1, x.2)
  left_inv x := Prod.ext (pr_pr _ _) rfl
  right_inv x := Prod.ext (pr_pr _ _) rfl

theorem deal {I : Type} [Fintype I] (e : I → Fin 9) (Φ : Dev nD → I → sProp 𝕄) :
    (bigSep Finset.univ fun c => bigSep Finset.univ fun i => Φ c i)
      = bigSep Finset.univ fun c => bigSep Finset.univ fun i => Φ (pr (e i) c) i := by
  rw [← bigSep_univ_prod (fun x : Dev nD × I => Φ x.1 x.2), bigSep_univ_equiv (prE e), bigSep_univ_prod]
  rfl

theorem toks_deal : (bigSep Finset.univ fun c : Dev nD => (toks c : sProp 𝕄)) = bigSep Finset.univ fun c => payToks c := by
  unfold toks payToks
  rw [bigSep_sep', bigSep_sep', bigSep_sep', bigSep_sep',
    deal (fun i => i) (fun c i => dutyTok ER (barCell c) 0 i), deal mi (fun c s => dutyTok ER (rcvCell c s) 0 0)]

/-- What the launch deals a device. -/
def G (c : Dev nD) : sProp 𝕄 :=
  iprop((bigSep Finset.univ fun k : Kx => roundState ER (Rd m ρ) (kcell (c, k)) 0)
    ∗ (bigSep Finset.univ fun k : Kx => iprop(atPos ER (kcell (c, k)) 0 ∅ 0 ∗ reached ER (kcell (c, k)) 0)) ∗ toks c)

/-- All cells' invariants and that all stand at their first round. -/
def records (K : Dev nD × Kx → ℕ) : sProp 𝕄 :=
  iprop((bigSep Finset.univ fun ck : Dev nD × Kx => cellInv ER (Rd m ρ) (K ck) (kcell ck))
    ∗ bigSep Finset.univ fun ck : Dev nD × Kx => reached ER (kcell ck) 0)

instance records_persistent (K : Dev nD × Kx → ℕ) : BI.Persistent (records (F := F) m ρ K) := by
  unfold records; infer_instance

/-- The positions of a device's cells and the tokens it pays with. -/
def linear (c : Dev nD) : sProp 𝕄 := iprop((bigSep Finset.univ fun k : Kx => atPos ER (kcell (c, k)) 0 ∅ 0) ∗ payToks c)

/-- What a device has once the invariants stand. -/
def G' (c : Dev nD) : sProp 𝕄 := iprop(∃ K, records m ρ K ∗ linear c)

theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Kx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The kernel's own semaphores: every slot's two. -/
def osem : Fin 42 → SemLoc sig := fun i =>
  csem (.inr (finSumFinEquiv.symm i))

theorem ownSemFacts : Pipeline.OwnSemFacts cfg0.spec osem := by decide +kernel

theorem ownSems0_eq (c : Dev nD) :
    (Pipeline.ownSems0 (Ix := Unit) (Name := ℕ) (U := UU) (Lvl := ℕ) (Val := Elt F) (τ := τ) osem c : sProp 𝕄)
      = bigSep Finset.univ fun k : Fin 21 ⊕ Fin 21 => semVal (kcell (c, .inr k)) 0 := by
  unfold Pipeline.ownSems0
  rw [bigSep_univ_equiv (finSumFinEquiv (m := 21) (n := 21))]
  exact bigSep_congr fun k _ => by unfold osem; rw [Equiv.symm_apply_apply]

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kx => semVal (kcell (c, k)) 0 : sProp 𝕄) := by
  rw [ownSems0_eq, unscopedSems0_eq,
    bigSep_univ_sum (fun k : Kx => semVal (kcell (c, k)) 0),
    bigSep_univ_eq_bigSepL [()] (by decide) (by decide), bigSepL_singleton]
  show iprop((bigSep Finset.univ fun k : Fin 21 ⊕ Fin 21 => semVal (kcell (c, .inr k)) 0) ∗ semVal (barCell c) 0)
    ⊢ iprop(semVal (barCell c) 0 ∗ bigSep Finset.univ fun k : Fin 21 ⊕ Fin 21 => semVal (kcell (c, .inr k)) 0)
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kx => semVal (kcell (c, k)) 0)
        ∗ bigSep Finset.univ fun k : Kx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _))
    $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kx => iprop(∃ κ : ℕ, cellInv ER (Rd m ρ) κ (kcell ck))),
    bigSep_congr (s := Finset.univ) (fun (c : Dev nD) _ => bigSep_sep' Finset.univ
      (fun k : Kx => (atPos ER (kcell (c, k)) 0 ∅ 0 : sProp 𝕄)) (fun k => reached ER (kcell (c, k)) 0)),
    bigSep_sep', ← bigSep_univ_prod (fun ck : Dev nD × Kx => (reached ER (kcell ck) 0 : sProp 𝕄)), toks_deal]
  iintro ⟨HI, ⟨Hat, #HR⟩, Htok⟩
  ihave HK := (BI.bigSep_exists_pi Finset.univ
    (fun (ck : Dev nD × Kx) (κ : ℕ) => (cellInv ER (Rd m ρ) κ (kcell ck) : sProp 𝕄))) $$ HI
  icases HK with ⟨%K, #HI⟩
  iapply (bigSep_with_persistent (R := records m ρ K) (Φ := linear) fun c _ => show _ ⊢ G' m ρ c from by
    unfold G'; iintro H; iexists K; iexact H)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ)
      (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credit -/

theorem creds_rcv (c : Dev nD) (l : List (Fin 21)) :
    (Pipeline.launchCred (fun d => Orem d l) c : sProp 𝕄) ⊢ bigSepL l fun s => cred (tallyAt (rcvCell c s) () N) := by
  induction l with
  | nil =>
    show (Pipeline.launchCred (fun _ : Dev nD => (0 : CellTallies nD τ sig Unit)) c : sProp 𝕄) ⊢ _
    rw [Pipeline.launchCred_zero, bigSepL_nil]
    exact BI.Entails.refl _
  | cons s l ih =>
    rw [bigSepL_cons']
    show (Pipeline.launchCred (fun d => Orem d l + tallyAt (rcvCell (pr (mi s) d) s) () N) c : sProp 𝕄) ⊢ _
    rw [Pipeline.launchCred_add]
    iintro ⟨H1, H2⟩
    isplitl [H2]
    · iapply (Pipeline.launchCred_tallyAt (.dma (semM cc0_scratch3 s).sem) (pr (mi s)) (pr (mi s)) (pr_pr _) (pr_pr _) () N c)
      iexact H2
    · iapply ih; iexact H1

theorem creds_sig (c : Dev nD) (l : List (Fin 9)) :
    (Pipeline.launchCred (fun d => Osig d l) c : sProp 𝕄)
      ⊢ iprop(cred (tallyAt (barCell c) () l.length) ∗ bigSepL allS fun s => cred (tallyAt (rcvCell c s) () N)) := by
  induction l with
  | nil =>
    show (Pipeline.launchCred (fun d => Orem d allS) c : sProp 𝕄) ⊢ _
    rw [List.length_nil, tallyAt_zero, cred_zero]
    iintro H
    isplitr; · iempintro
    iapply (creds_rcv c allS); iexact H
  | cons i l ih =>
    show (Pipeline.launchCred (fun d => Osig d l + tallyAt (barCell (pr i d)) () 1) c : sProp 𝕄) ⊢ _
    rw [Pipeline.launchCred_add, List.length_cons, ← tallyAt_add]
    iintro ⟨H1, H2⟩
    ihave H1 := ih $$ H1
    icases H1 with ⟨H1, H3⟩
    isplitr [H3]
    · iapply (cred_add _ _).2
      isplitl [H1]; · iexact H1
      iapply (Pipeline.launchCred_tallyAt (.reg barS) (pr i) (pr i) (pr_pr _) (pr_pr _) () 1 c)
      iexact H2
    · iexact H3

theorem creds (c : Dev nD) :
    (Pipeline.launchCred O₀ c : sProp 𝕄)
      ⊢ iprop(cred (tallyAt (barCell c) () 9) ∗ bigSep Finset.univ fun s => cred (tallyAt (rcvCell c s) () N)) := by
  rw [slots_all]
  exact creds_sig c allI

/-! ## The slot buffer as its slots -/

/-- The elements of a slot. -/
def slotSet (s : Fin 21) : Finset (cc0_scratch1 : Ref sig .tc).ty.Idx := (slotM cM s).view.set

theorem mem_slot (s : Fin 21) (i : (cc0_scratch1 : Ref sig .tc).ty.Idx) : i ∈ slotSet s ↔ (i 0 : ℕ) = s := by
  have h : slotSet s = (Rect.unit (s := S21x256x128) ![(s : ℕ), 0, 0] S1x256x128.size (slot_inb s)).set := by
    show (((View.whole cc0_scratch1).slice _).reshape S256x128 _).set = _
    rw [View.set_reshape]
    exact View.set_slice_whole _ _
  rw [h, Rect.mem_set_unit]
  constructor
  · intro h
    have h0 : (s : ℕ) ≤ i 0 ∧ (i 0 : ℕ) < s + 1 := h 0
    omega
  · intro h a
    fin_cases a
    · exact (show (s : ℕ) ≤ i 0 ∧ (i 0 : ℕ) < s + 1 by omega)
    · exact (show 0 ≤ (i 1 : ℕ) ∧ (i 1 : ℕ) < 0 + 256 from ⟨Nat.zero_le _, by rw [Nat.zero_add]; exact (i 1).isLt⟩)
    · exact (show 0 ≤ (i 2 : ℕ) ∧ (i 2 : ℕ) < 0 + 128 from ⟨Nat.zero_le _, by rw [Nat.zero_add]; exact (i 2).isLt⟩)

theorem slots_cover : (Finset.univ : Finset (Fin 21)).biUnion slotSet = Finset.univ :=
  Finset.eq_univ_iff_forall.mpr fun i => Finset.mem_biUnion.mpr ⟨i 0, Finset.mem_univ _, (mem_slot _ i).mpr rfl⟩

theorem slots_disjoint : ∀ s ∈ (Finset.univ : Finset (Fin 21)), ∀ s' ∈ (Finset.univ : Finset (Fin 21)), s ≠ s' →
    Disjoint (slotSet s) (slotSet s') := fun s _ s' _ h =>
  Finset.disjoint_left.mpr fun i hi hi' => h (Fin.ext (((mem_slot s i).mp hi).symm.trans ((mem_slot s' i).mp hi')))

/-- The slot buffer whole, at any contents. -/
def slotsWhole (c : Dev nD) : sProp 𝕄 :=
  iprop(∃ f : Buf (Elt F) ((c : Thread nD τ).loc cc0_scratch1), ((c : Thread nD τ).loc cc0_scratch1) ↦{fullShare} f)

theorem slot_pts (c : Dev nD) (s : Fin 21) (f : Buf (Elt F) ((c : Thread nD τ).loc cc0_scratch1)) :
    iprop(((c : Thread nD τ).loc cc0_scratch1) ↦[slotSet s]{fullShare} f) ⊢ (slotAny c s : sProp 𝕄) := by
  unfold slotAny
  iintro H
  iexists f
  iexact H

theorem slots_split (c : Dev nD) : slotsWhole (F := F) c ⊢ bigSep Finset.univ (slotAny c) := by
  unfold slotsWhole
  iintro ⟨%f, H⟩
  ihave H := (show (((c : Thread nD τ).loc cc0_scratch1) ↦{fullShare} f : sProp 𝕄)
      ⊢ bigSep Finset.univ fun s => ((c : Thread nD τ).loc cc0_scratch1) ↦[slotSet s]{fullShare} f from
    Entails.of_eq (by rw [← slots_cover]; exact pointsTo_biUnion _ _ slots_disjoint)) $$ H
  ihave H := (show (bigSep Finset.univ fun s => ((c : Thread nD τ).loc cc0_scratch1) ↦[slotSet s]{fullShare} f : sProp 𝕄)
      ⊢ bigSep Finset.univ (slotAny c) from bigSep_mono fun s _ => slot_pts c s f) $$ H
  iexact H

theorem slots_join (c : Dev nD) : bigSep Finset.univ (slotAny c) ⊢ slotsWhole (F := F) c := by
  unfold slotsWhole
  iintro H
  ihave H := (show bigSep Finset.univ (slotAny c)
      ⊢ iprop(∃ fs : Fin 21 → Buf (Elt F) ((c : Thread nD τ).loc cc0_scratch1),
        bigSep Finset.univ fun s => ((c : Thread nD τ).loc cc0_scratch1) ↦[slotSet s]{fullShare} fs s) from
    BI.bigSep_exists_pi Finset.univ (fun (s : Fin 21) (f : Buf (Elt F) ((c : Thread nD τ).loc cc0_scratch1)) =>
      (((c : Thread nD τ).loc cc0_scratch1) ↦[slotSet s]{fullShare} f : sProp 𝕄))) $$ H
  icases H with ⟨%fs, H⟩
  ihave H := (pointsTo_biUnion_join Finset.univ slotSet fs (fs 0) slots_disjoint) $$ H
  icases H with ⟨%g, -, H⟩
  rw [slots_cover]
  iexists g
  iexact H

end Cert.Proof
-- ==== Proof.Run.lean ====
module

public import proofs.«01_k».proof.Proof.Deal
public import Idealize.ShloMosaic.Lib.Pipeline.CollectiveSegs

@[expose] public section

/-! # The run of the whole mesh -/

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from, but its buffers. -/
def start (c : Dev nD) : sProp 𝕄 :=
  iprop(G' m ρ c ∗ (cred (tallyAt (barCell c) () 9) ∗ bigSep Finset.univ fun s => cred (tallyAt (rcvCell c s) () N))
    ∗ levAts L lv)

/-- The block buffer whole, at any contents. -/
def blkWhole (c : Dev nD) : sProp 𝕄 :=
  iprop(∃ f : Buf (Elt F) ((c : Thread nD τ).loc cc0_scratch0), ((c : Thread nD τ).loc cc0_scratch0) ↦{fullShare} f)

theorem blkWhole_eq (c : Dev nD) : blkWhole (F := F) c = iprop(∃ v, blkPts c fullShare v) := by
  unfold blkWhole blkPts; rw [View.set_whole]; rfl

def Φ₀ (c : Dev nD) : sProp 𝕄 := iprop(start m ρ c ∗ blkWhole c ∗ slotsWhole c)
def Φ₁ (c : Dev nD) : sProp 𝕄 := iprop(semVal (barCell c) 0 ∗ bigSep Finset.univ (Done c) ∗ blkWhole c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The barrier's tokens with the slots they hand over. -/
theorem sig_intro (c : Dev nD) :
    iprop((bigSep Finset.univ fun i : Fin 9 => dutyTok ER (barCell (pr i c)) 0 i) ∗ slotsWhole (F := F) c)
      ⊢ bigSepL allI (SigT c) := by
  rw [← bigSep_univ_eq_bigSepL allI (by decide) (by decide)]
  unfold SigT
  rw [bigSep_sep']
  refine sep_mono_right ((slots_split c).trans (Entails.of_eq ?_))
  rw [← slots_regroup]
  exact bigSep_congr fun i _ => (slotsAny_eq c (slotsOf i)).symm

theorem mine_intro (c : Dev nD) :
    iprop((bigSep Finset.univ fun s : Fin 21 => dutyTok ER (sndCell c s) 0 0)
      ∗ (bigSep Finset.univ fun s : Fin 21 => dutyTok ER (rcvCell (pr (mi s) c) s) 0 0)
      ∗ (bigSep Finset.univ fun s : Fin 21 => atPos ER (sndCell c s) 0 ∅ 0)
      ∗ (bigSep Finset.univ fun s : Fin 21 => atPos ER (rcvCell c s) 0 ∅ 0)
      ∗ bigSep Finset.univ fun s : Fin 21 => cred (tallyAt (rcvCell c s) () N))
      ⊢ bigSep Finset.univ (Mine (F := F) c) := by
  unfold Mine
  rw [bigSep_sep', bigSep_sep', bigSep_sep', bigSep_sep']

theorem pos_split (c : Dev nD) :
    (bigSep Finset.univ fun k : Kx => (atPos ER (kcell (c, k)) 0 ∅ 0 : sProp 𝕄))
      = iprop(atPos ER (barCell c) 0 ∅ 0 ∗ (bigSep Finset.univ fun s : Fin 21 => atPos ER (sndCell c s) 0 ∅ 0)
        ∗ bigSep Finset.univ fun s : Fin 21 => atPos ER (rcvCell c s) 0 ∅ 0) := by
  rw [bigSep_univ_sum, bigSep_univ_sum, bigSep_univ_eq_bigSepL [()] (by decide) (by decide), bigSepL_singleton]
  rfl

theorem pre_intro (c : Dev nD) : bodyPre m ρ c ⊢ iprop(∃ K, progPre m ρ K c) := by
  unfold bodyPre Φ₀ start G' linear payToks Dat.owesAt Pipeline.owesWithin
  rw [pos_split]
  iintro ⟨⟨⟨⟨%K, #HR, ⟨HaB, HaS, HaR⟩, HtB, HtS, HtR⟩, ⟨HcB, HcR⟩, #Hlev⟩, Hb, Hs⟩, ⟨%W, %hW, HO⟩,
    ⟨%d0, %g0, %hg0, Hx⟩, ⟨%d1, %g1, %hg1, Ho⟩⟩
  have hx : g0 = xstg m ρ c := by rw [hg0]; unfold Dat.before; rw [if_pos (fetch_0 t₀)]; rfl
  subst hx
  rw [show (dats m ρ 0 c).owed t₀.castSucc = O₀ c from rfl]
  iexists K
  unfold progPre
  isplitr
  · unfold Ctx records
    icases HR with ⟨#H1, #H2⟩
    isplitr; · iexact H1
    isplitr; · iexact H2
    iexact Hlev
  isplitl [HtB Hs]
  · iapply (sig_intro c)
    isplitl [HtB] <;> iassumption
  isplitl [HO]
  · unfold owesAny; iexists W; iexact HO
  isplitl [HaB]; · iexact HaB
  isplitl [HcB]; · iexact HcB
  isplitl [HaS HaR HtS HtR HcR]
  · iapply (mine_intro c)
    isplitl [HtS]; · iexact HtS
    isplitl [HtR]; · iexact HtR
    isplitl [HaS]; · iexact HaS
    isplitl [HaR] <;> iassumption
  isplitl [Hb]
  · rw [← blkWhole_eq]; iexact Hb
  isplitl [Hx]
  · unfold xPts; iexact Hx
  iexists g1
  unfold oPts; iexact Ho

theorem post_elim (c : Dev nD) : progPost m ρ c ⊢ bodyPost m ρ c := by
  unfold progPost bodyPost Φ₁ Dat.owesAt Pipeline.owesWithin owesAny xPts oPts
  rw [show (dats m ρ 0 c).owed t₀.succ = 0 from rfl, blkWhole_eq]
  iintro ⟨Hz, Hd, ⟨%W, HO⟩, Hb, Hx, Ho⟩
  isplitl [Hz Hd Hb]
  · isplitl [Hz]; · iexact Hz
    isplitl [Hd] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3) (fun _ => bodyPost m ρ c) := by
  rw [cc0_body_eq_skeleton, body_eq_sortP]
  iintro H
  ihave H := (pre_intro m ρ c) $$ H
  icases H with ⟨%K, H⟩
  iapply (prog_spec m ρ K c)
  isplitl [H]; · iexact H
  iintro H
  iapply (post_elim m ρ c)
  iexact H

set_option maxRecDepth 8000 in
/-- The library's obligation on the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ blkWhole slotsWhole
  iintro ⟨Hs, -, Hr⟩
  isplitl [Hs] <;> iassumption

theorem sems_join (c : Dev nD) :
    iprop((bigSep Finset.univ fun s : Fin 21 => semVal (sndCell c s) 0) ∗ bigSep Finset.univ fun s : Fin 21 => semVal (rcvCell c s) 0)
      ⊢ (bigSep Finset.univ fun k : Fin 21 ⊕ Fin 21 => semVal (kcell (c, .inr k)) 0 : sProp 𝕄) := by
  rw [bigSep_univ_sum]
  exact Entails.refl _

theorem done_split (c : Dev nD) :
    bigSep Finset.univ (Done c) ⊢ iprop((bigSep Finset.univ fun k : Fin 21 ⊕ Fin 21 => semVal (kcell (c, .inr k)) 0)
      ∗ slotsWhole (F := F) c) := by
  unfold Done
  rw [bigSep_sep', bigSep_sep']
  iintro ⟨H1, H2, H3⟩
  isplitr [H3]
  · iapply (sems_join c)
    isplitl [H1] <;> iassumption
  · iapply (slots_join c); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hz, Hd, Hb⟩
  ihave Hd := (done_split c) $$ Hd
  icases Hd with ⟨Hv, Hs⟩
  isplitl [Hz]; · iexact Hz
  isplitl [Hv]; · iexact Hv
  unfold blkWhole slotsWhole
  isplitl [Hb] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the mesh ends, each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The run, read at the argument. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

end Cert.Proof
-- ==== Proof.Transport.lean ====
module

public import proofs.«01_k».proof.Defs
public import proofs.«01_k».proof.Proof.Gen.Kernel
public import proofs.«01_k».proof.Proof.Gen.KernelIdeal

@[expose] public section

/-! # The program and its ideal text are one

No operation was rewritten, so a run of the ideal text is a run of the program, at any reading of floats. -/

noncomputable section
namespace Cert.Proof

open Idealize.ShloMosaic Idealize.SL.Sem

set_option maxRecDepth 100000
variable {F : FTy → Type} [FloatOps F]

theorem defs₀_eq : (Cert.Kernel.defs₀ (F := F)) = Cert.KernelIdeal.defs₀ (F := F) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

theorem defs_eq : (Cert.Kernel.defs (F := F)) = Cert.KernelIdeal.defs (F := F) := by
  unfold Cert.Kernel.defs
  rw [defs₀_eq]
  rfl

/-- A run of the ideal text is a run of the program. -/
theorem transport (m : (ℓ : Loc Cert.Kernel.nD Cert.Kernel.τ Cert.Kernel.sig) → Buf (Elt F) ℓ) (g : Dev Cert.Kernel.nD → PrngReg)
  (h : θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.Kernel.nD Cert.Kernel.τ).loc Cert.Kernel.main_arg0))
      ∧ r.2.sem = fun _ => 0)) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) := by
  rw [defs_eq]
  exact h

end Cert.Proof

end
-- ==== Proof.Cx.lean ====
module

public import proofs.«01_k».proof.Proof.Ops
public import Mathlib.Tactic.Ring
public import Idealize.ShloMosaic.PureOps.Ideal.Laws
public import Idealize.ShloMosaic.Lib.ValueIdxCore
public import Idealize.ShloMosaic.Lib.Pipeline.Value
public import Idealize.ShloMosaic.Lib.SortNet.Bitonic

@[expose] public section

/-! # A compare-exchange of a block, read at a row

Over the extended reals. A row at distance `2 ^ s` keeps the smaller of its value and its partner's or the
larger, by its bit `s` and the direction of its group. -/

noncomputable section

namespace Cert.Proof

open Cert.KernelIdeal Cert.KernelIdeal.Gen
open Idealize.ShloMosaic Idealize.ShloMosaic.ValueIdx Idealize.ShloMosaic.SortNet

variable {b d : ℕ} (h : CxOk b d)

/-- A block of extended reals, whatever its format. -/
abbrev EB := S256x128.Idx → EReal

/-! ## Where a part's row lies -/

theorem loPart_read (v : EB) (g : Fin b) (q : Fin d) (j : Fin 128) (r : Fin 256) (hr : r.val = (2 * g.val) * d + q.val) :
    loPart (F := Ideal) b d h v (ix3 g q j) = v (ix2 r j) := by
  unfold loPart
  rw [shapeCast_apply _ h.drop _ (ix4 g (0 : Fin 1) q j) (by
    rw [Shape.rowMajor_val_four, Shape.rowMajor_val_three]
    show ((g.val * 1 + 0) * d + q.val) * 128 + j.val = (g.val * d + q.val) * 128 + j.val
    ring)]
  unfold extractStridedSlice
  rw [shapeCast_apply _ h.split _ (ix2 r j) (by
    rw [Shape.rowMajor_val_four, Shape.rowMajor_val_two]
    show r.val * 128 + j.val = (((0 + g.val) * 2 + (0 + 0)) * d + (0 + q.val)) * 128 + (0 + j.val)
    rw [hr]; ring)]

theorem hiPart_read (v : EB) (g : Fin b) (q : Fin d) (j : Fin 128) (r : Fin 256) (hr : r.val = (2 * g.val + 1) * d + q.val) :
    hiPart (F := Ideal) b d h v (ix3 g q j) = v (ix2 r j) := by
  unfold hiPart
  rw [shapeCast_apply _ h.drop _ (ix4 g (0 : Fin 1) q j) (by
    rw [Shape.rowMajor_val_four, Shape.rowMajor_val_three]
    show ((g.val * 1 + 0) * d + q.val) * 128 + j.val = (g.val * d + q.val) * 128 + j.val
    ring)]
  unfold extractStridedSlice
  rw [shapeCast_apply _ h.split _ (ix2 r j) (by
    rw [Shape.rowMajor_val_four, Shape.rowMajor_val_two]
    show r.val * 128 + j.val = (((0 + g.val) * 2 + (1 + 0)) * d + (0 + q.val)) * 128 + (0 + j.val)
    rw [hr]; ring)]

theorem join_lo (x y : FVec Ideal (S3d b d) .f32) (g : Fin b) (q : Fin d) (j : Fin 128) (r : Fin 256)
    (hr : r.val = (2 * g.val) * d + q.val) : joinParts b d h x y (ix2 r j) = x (ix3 g q j) := by
  unfold joinParts
  rw [shapeCast_apply _ h.join _ (ix4 g (0 : Fin 2) q j) (by
    rw [Shape.rowMajor_val_four, Shape.rowMajor_val_two]
    show ((g.val * 2 + 0) * d + q.val) * 128 + j.val = r.val * 128 + j.val
    rw [hr]; ring)]
  rw [concatenate_pair_apply_left 1 _ _ h.cat _ rfl (ix4 g (0 : Fin 1) q j) (fun a => by fin_cases a <;> rfl)]
  rw [shapeCast_apply _ h.put _ (ix3 g q j) (by
    rw [Shape.rowMajor_val_four, Shape.rowMajor_val_three]
    show (g.val * d + q.val) * 128 + j.val = ((g.val * 1 + 0) * d + q.val) * 128 + j.val
    ring)]

theorem join_hi (x y : FVec Ideal (S3d b d) .f32) (g : Fin b) (q : Fin d) (j : Fin 128) (r : Fin 256)
    (hr : r.val = (2 * g.val + 1) * d + q.val) : joinParts b d h x y (ix2 r j) = y (ix3 g q j) := by
  unfold joinParts
  rw [shapeCast_apply _ h.join _ (ix4 g (1 : Fin 2) q j) (by
    rw [Shape.rowMajor_val_four, Shape.rowMajor_val_two]
    show ((g.val * 2 + 1) * d + q.val) * 128 + j.val = r.val * 128 + j.val
    rw [hr]; ring)]
  rw [concatenate_pair_apply_right 1 _ _ h.cat _ rfl rfl (ix4 g (0 : Fin 1) q j)
    (fun a ha => by fin_cases a <;> first | rfl | exact absurd rfl ha) rfl]
  rw [shapeCast_apply _ h.put _ (ix3 g q j) (by
    rw [Shape.rowMajor_val_four, Shape.rowMajor_val_three]
    show (g.val * d + q.val) * 128 + j.val = ((g.val * 1 + 0) * d + q.val) * 128 + j.val
    ring)]

/-! ## The exchange -/

/-- A row's partner at distance `2 ^ s`. -/
abbrev rowP (s : ℕ) (r : Fin 256) : Fin 256 := partner 8 s r

/-- The value a row keeps: the smaller if its bit agrees with the direction. -/
def keepE (t w : Bool) (x y : EReal) : EReal := if t = w then min x y else max x y

/-- A block whose parts are the kept values is the exchange of the block. -/
theorem join_read (s : ℕ) (hs : s < 8) (hd : d = 2 ^ s) (hb : b * (2 * d) = 256) (v : EB) (j : Fin 128) (W : Fin b → Bool)
    (x y : FVec Ideal (S3d b d) .f32)
    (hx : ∀ g q, x (ix3 g q j) = keepE false (W g) (loPart (F := Ideal) b d h v (ix3 g q j)) (hiPart (F := Ideal) b d h v (ix3 g q j)))
    (hy : ∀ g q, y (ix3 g q j) = keepE true (W g) (loPart (F := Ideal) b d h v (ix3 g q j)) (hiPart (F := Ideal) b d h v (ix3 g q j)))
    (r : Fin 256) (g : Fin b) (hg : g.val = r.val / (2 * d)) :
    joinParts b d h x y (ix2 r j) = keepE (r.val.testBit s) (W g) (v (ix2 r j)) (v (ix2 (rowP s r) j)) := by
  have hd0 : 0 < d := by rw [hd]; exact Nat.two_pow_pos s
  have hk : r.val / d / 2 = g.val := by rw [hg, Nat.div_div_eq_div_mul, Nat.mul_comm]
  have hq : r.val % d < d := Nat.mod_lt _ hd0
  have hdm := Nat.div_add_mod r.val d
  have hbit : r.val.testBit s = decide (r.val / d % 2 = 1) := by rw [Nat.testBit_eq_decide_div_mod_eq, hd]
  have h2 := Nat.div_add_mod (r.val / d) 2
  rw [hk] at h2
  have hclr := and_two_pow_eq_zero_iff_testBit r.val s
  rcases Nat.mod_two_eq_zero_or_one (r.val / d) with h0 | h1
  · have hb0 : r.val.testBit s = false := by rw [hbit, h0]; rfl
    have hp : (rowP s r).val = r.val + d := by rw [hd]; exact partner_val_of_clear hs r (hclr.2 hb0)
    rw [h0, Nat.add_zero] at h2
    have hr : r.val = (2 * g.val) * d + (⟨r.val % d, hq⟩ : Fin d).val := by
      show r.val = (2 * g.val) * d + r.val % d
      rw [h2, Nat.mul_comm]; exact hdm.symm
    rw [join_lo h x y g ⟨r.val % d, hq⟩ j r hr, hx, hb0, loPart_read h v g _ j r hr,
      hiPart_read h v g ⟨r.val % d, hq⟩ j (rowP s r) (by rw [hp]; conv_lhs => rw [hr]
                                                         ring)]
  · have hb1 : r.val.testBit s = true := by rw [hbit, h1]; rfl
    have hp := partner_val_of_set hs r (fun e => by rw [hclr.1 e] at hb1; cases hb1)
    rw [h1] at h2
    have hr : r.val = (2 * g.val + 1) * d + (⟨r.val % d, hq⟩ : Fin d).val := by
      show r.val = (2 * g.val + 1) * d + r.val % d
      rw [h2, Nat.mul_comm]; exact hdm.symm
    have hp' : (rowP s r).val = (2 * g.val) * d + (⟨r.val % d, hq⟩ : Fin d).val := by
      have e : (rowP s r).val = r.val - d := by rw [hd]; exact hp.2
      rw [e]; conv_lhs => rw [hr]
      rw [Nat.add_mul, Nat.one_mul, Nat.add_right_comm, Nat.add_sub_cancel]
    rw [join_hi h x y g ⟨r.val % d, hq⟩ j r hr, hy, hb1, hiPart_read h v g _ j r hr, loPart_read h v g _ j (rowP s r) hp']
    unfold keepE
    rw [min_comm, max_comm]

/-- A compare-exchange in one direction. -/
theorem cxS_read (s : ℕ) (hs : s < 8) (hd : d = 2 ^ s) (hb : b * (2 * d) = 256) (w : Bool) (v : EB) (r : Fin 256) (j : Fin 128) :
    cxS (F := Ideal) b d h (BitVec.ofBool !w) v (ix2 r j) = keepE (r.val.testBit s) w (v (ix2 r j)) (v (ix2 (rowP s r) j)) := by
  unfold cxS
  refine join_read h s hs hd hb v j (fun _ => w) _ _ (fun g q => ?_) (fun g q => ?_) r ⟨r.val / (2 * d), ?_⟩ rfl
  · cases w <;> rfl
  · cases w <;> rfl
  · exact Nat.div_lt_of_lt_mul (by rw [Nat.mul_comm, hb]; exact r.isLt)

/-- A compare-exchange with a direction for each group. -/
theorem cxM_read (s : ℕ) (hs : s < 8) (hd : d = 2 ^ s) (hb : b * (2 * d) = 256) (mk : IVec (S3 b) 1) (W : Fin b → Bool)
    (hmk : ∀ g : Fin b, mk (ix3 g (0 : Fin 1) (0 : Fin 1)) = BitVec.ofBool !(W g)) (v : EB) (r : Fin 256) (j : Fin 128)
    (g : Fin b) (hg : g.val = r.val / (2 * d)) :
    cxM (F := Ideal) b d h mk v (ix2 r j) = keepE (r.val.testBit s) (W g) (v (ix2 r j)) (v (ix2 (rowP s r) j)) := by
  unfold cxM
  have hm : ∀ (g : Fin b) (q : Fin d), broadcastTo (S3d b d) (shapeCast (S3 b) mk h.mcast) h.mwide (ix3 g q j) = BitVec.ofBool !(W g) := by
    intro g q
    rw [broadcastTo_apply _ h.mwide _ (ix3 g (0 : Fin 1) (0 : Fin 1)) (fun a => by
      fin_cases a
      · show g.val = if b = 1 then 0 else g.val
        split
        · have := g.isLt; omega
        · rfl
      · rfl
      · rfl), shapeCast_self, hmk]
  refine join_read h s hs hd hb v j W _ _ (fun g q => ?_) (fun g q => ?_) r g hg
  · unfold select; rw [hm]; cases W g <;> rfl
  · unfold select; rw [hm]; cases W g <;> rfl

end Cert.Proof

end
-- ==== Proof.Column.lean ====
module

public import proofs.«01_k».proof.Proof.Cx
public import Idealize.ShloMosaic.Lib.SortNet.Sorts

@[expose] public section

/-! # The mesh's column as one vector

Row `r` of device `c` is position `256 * c + r` of a column of `2 ^ 13`. A compare-exchange inside the blocks,
or of whole blocks between devices, is a stage of the bitonic sort of that column. -/

noncomputable section

namespace Cert.Proof

open Cert.KernelIdeal Cert.KernelIdeal.Gen
open Idealize.ShloMosaic Idealize.ShloMosaic.ValueIdx Idealize.ShloMosaic.SortNet

/-- A row's position in the column. -/
def rowOf (c : Dev nD) (r : Fin 256) : Fin (2 ^ 13) :=
  ⟨2 ^ 8 * c.val + r.val, by
    have hc : c.val < 32 := c.isLt
    have := r.isLt
    show _ < 8192
    omega⟩

/-- The device of a position. -/
def devOf (i : Fin (2 ^ 13)) : Dev nD := ⟨i.val / 256, by
  have : i.val < 8192 := i.isLt
  show _ < 32
  omega⟩
/-- The row of a position. -/
def inOf (i : Fin (2 ^ 13)) : Fin 256 := ⟨i.val % 256, Nat.mod_lt _ (by decide)⟩

theorem rowOf_parts (i : Fin (2 ^ 13)) : rowOf (devOf i) (inOf i) = i := by
  apply Fin.ext
  show 2 ^ 8 * (i.val / 256) + i.val % 256 = i.val
  omega
theorem devOf_row (c : Dev nD) (r : Fin 256) : devOf (rowOf c r) = c := by
  apply Fin.ext
  show (2 ^ 8 * c.val + r.val) / 256 = c.val
  have := r.isLt
  omega
theorem inOf_row (c : Dev nD) (r : Fin 256) : inOf (rowOf c r) = r := by
  apply Fin.ext
  show (2 ^ 8 * c.val + r.val) % 256 = r.val
  have := r.isLt
  omega

/-- Column `j` of the devices' blocks. -/
def col (X : Dev nD → EB) (j : Fin 128) : Fin (2 ^ 13) → EReal := fun i => X (devOf i) (ix2 (inOf i) j)

theorem col_row (X : Dev nD → EB) (j : Fin 128) (c : Dev nD) (r : Fin 256) : col X j (rowOf c r) = X c (ix2 r j) := by
  unfold col; rw [devOf_row, inOf_row]

/-- Columns agree when the blocks do. -/
theorem col_ext {Y : Dev nD → EB} {j : Fin 128} {v : Fin (2 ^ 13) → EReal} (h : ∀ c r, Y c (ix2 r j) = v (rowOf c r)) :
    col Y j = v := by
  funext i
  rw [← rowOf_parts i, col_row, h]

theorem row_bit_lo (c : Dev nD) (r : Fin 256) {s : ℕ} (hs : s < 8) : (rowOf c r).val.testBit s = r.val.testBit s := by
  show (2 ^ 8 * c.val + r.val).testBit s = _
  rw [Nat.testBit_two_pow_mul_add _ r.isLt, if_pos hs]
theorem row_bit_hi (c : Dev nD) (r : Fin 256) (a : ℕ) : (rowOf c r).val.testBit (8 + a) = c.val.testBit a := by
  show (2 ^ 8 * c.val + r.val).testBit (8 + a) = _
  rw [Nat.testBit_two_pow_mul_add _ r.isLt, if_neg (by omega), Nat.add_sub_cancel_left]

theorem partner_row_lo (c : Dev nD) (r : Fin 256) {s : ℕ} (hs : s < 8) : partner 13 s (rowOf c r) = rowOf c (rowP s r) := by
  apply Fin.ext
  rw [partner_val (by omega)]
  apply Nat.eq_of_testBit_eq
  intro t
  rw [Nat.testBit_xor, Nat.testBit_two_pow]
  rcases Nat.lt_or_ge t 8 with ht | ht
  · rw [row_bit_lo c r ht, row_bit_lo c _ ht]
    show _ = ((partner 8 s r).val).testBit t
    rw [partner_val hs, Nat.testBit_xor, Nat.testBit_two_pow]
  · obtain ⟨a, rfl⟩ := Nat.exists_eq_add_of_le ht
    rw [row_bit_hi, row_bit_hi, decide_eq_false (by omega), Bool.xor_false]

theorem partner_row_hi (c c' : Dev nD) (r : Fin 256) {a : ℕ} (ha : a < 5) (hc : c'.val = c.val ^^^ 2 ^ a) :
    partner 13 (8 + a) (rowOf c r) = rowOf c' r := by
  apply Fin.ext
  rw [partner_val (by omega)]
  apply Nat.eq_of_testBit_eq
  intro t
  rw [Nat.testBit_xor, Nat.testBit_two_pow]
  rcases Nat.lt_or_ge t 8 with ht | ht
  · rw [row_bit_lo c r ht, row_bit_lo c' _ ht, decide_eq_false (by omega), Bool.xor_false]
  · obtain ⟨b, rfl⟩ := Nat.exists_eq_add_of_le ht
    rw [row_bit_hi, row_bit_hi, hc, Nat.testBit_xor, Nat.testBit_two_pow]
    congr 1
    exact decide_eq_decide.2 ⟨fun e => by omega, fun e => by omega⟩

/-! ## A stage -/

/-- The stage at distance `2 ^ s` in the level that makes runs of `2 ^ l`. -/
def stg' (l s : ℕ) (v : Fin (2 ^ 13) → EReal) : Fin (2 ^ 13) → EReal :=
  Network.apply (stage 13 s fun i => (decide (i.val &&& 2 ^ l = 0)) == false) v

theorem stg_read {l s : ℕ} (hs : s < 13) (hl : s < l) (v : Fin (2 ^ 13) → EReal) (i : Fin (2 ^ 13)) :
    stg' l s v i = keepE (i.val.testBit s) (i.val.testBit l) (v i) (v (partner 13 s i)) := by
  have hw : ∀ x : ℕ, ((decide (x &&& 2 ^ l = 0)) == false) = x.testBit l := by
    intro x
    cases hb : x.testBit l
    · rw [decide_eq_true ((and_two_pow_eq_zero_iff_testBit x l).2 hb)]; rfl
    · rw [decide_eq_false (fun e => by rw [(and_two_pow_eq_zero_iff_testBit x l).1 e] at hb; cases hb)]; rfl
  unfold stg' keepE
  by_cases hi : i.val &&& 2 ^ s = 0
  · rw [(apply_stage hs _ v i hi).1]
    simp only [hw, (and_two_pow_eq_zero_iff_testBit _ s).1 hi]
    cases i.val.testBit l <;> rfl
  · have e := (apply_stage hs (fun i => (decide (i.val &&& 2 ^ l = 0)) == false) v (partner 13 s i) (partner_and_of_set hs i hi)).2
    rw [partner_partner hs] at e
    have hpl : (partner 13 s i).val.testBit l = i.val.testBit l := by
      rw [partner_val hs, Nat.testBit_xor, Nat.testBit_two_pow, decide_eq_false (by omega), Bool.xor_false]
    have hb : i.val.testBit s = true := by
      cases hb : i.val.testBit s
      · exact absurd ((and_two_pow_eq_zero_iff_testBit _ s).2 hb) hi
      · rfl
    rw [e]
    simp only [hw, hpl, hb]
    cases i.val.testBit l
    · exact max_comm _ _
    · exact min_comm _ _

/-- An exchange inside every block is a stage. -/
theorem local_stage {l s : ℕ} (hs : s < 8) (hl : s < l) (X Y : Dev nD → EB) (j : Fin 128)
    (h : ∀ c r, Y c (ix2 r j)
      = keepE (r.val.testBit s) ((rowOf c r).val.testBit l) (X c (ix2 r j)) (X c (ix2 (rowP s r) j))) :
    col Y j = stg' l s (col X j) := by
  refine col_ext fun c r => ?_
  rw [h, stg_read (by omega) hl, partner_row_lo c r hs, col_row, col_row, row_bit_lo c r hs]

/-- An exchange of blocks between devices is a stage. -/
theorem dev_stage {b a : ℕ} (ha : a < 5) (hl : a < b) (X Y : Dev nD → EB) (j : Fin 128) (p : Dev nD → Dev nD)
    (hp : ∀ c, (p c).val = c.val ^^^ 2 ^ a)
    (h : ∀ c r, Y c (ix2 r j) = keepE (c.val.testBit a) (c.val.testBit b) (X c (ix2 r j)) (X (p c) (ix2 r j))) :
    col Y j = stg' (8 + b) (8 + a) (col X j) := by
  refine col_ext fun c r => ?_
  rw [h, stg_read (by omega) (by omega), partner_row_hi c (p c) r ha (hp c), col_row, col_row, row_bit_hi, row_bit_hi]

/-! ## The levels -/

/-- One level of the sort. -/
def lev (l : ℕ) (v : Fin (2 ^ 13) → EReal) : Fin (2 ^ 13) → EReal := Network.apply (levelNet 13 false l) v

/-- A level's stages from distance `2 ^ (n - 1)` down. -/
def run (l : ℕ) : ℕ → (Fin (2 ^ 13) → EReal) → Fin (2 ^ 13) → EReal
  | 0, v => v
  | n + 1, v => run l n (stg' l n v)

theorem lev_eq (l : ℕ) (v : Fin (2 ^ 13) → EReal) : lev l v = run (l + 1) (l + 1) v := by
  have h : ∀ (n : ℕ) (v : Fin (2 ^ 13) → EReal), Network.apply ((List.range n).reverse.flatMap fun s =>
      stage 13 s fun i => (decide (i.val &&& 2 ^ (l + 1) = 0)) == false) v = run (l + 1) n v := by
    intro n
    induction n with
    | zero => intro v; rfl
    | succ n ih =>
      intro v
      rw [List.range_succ, List.reverse_append, List.reverse_singleton, List.singleton_append, List.flatMap_cons, Network.apply_append, ih]
      rfl
  exact h (l + 1) v

/-- The first levels. -/
def levs : ℕ → (Fin (2 ^ 13) → EReal) → Fin (2 ^ 13) → EReal
  | 0, v => v
  | n + 1, v => run (n + 1) (n + 1) (levs n v)

theorem levs_eq (n : ℕ) (v : Fin (2 ^ 13) → EReal) : levs n v = Network.apply (levelsNet 13 false n) v := by
  induction n with
  | zero => rfl
  | succ n ih => rw [levelsNet_succ, Network.apply_append, ← ih, levs, ← lev_eq]; rfl

/-- All levels sort, and only rearrange. -/
theorem levs_sorted (v : Fin (2 ^ 13) → EReal) : Monotone (levs 13 v) := by
  rw [levs_eq, ← sortNet_eq_levelsNet]; exact sortNet_apply_monotone 13 v
theorem levs_perm (v : Fin (2 ^ 13) → EReal) : ∃ σ : Equiv.Perm (Fin (2 ^ 13)), levs 13 v = v ∘ σ := by
  rw [levs_eq]; exact Network.exists_perm _ v

end Cert.Proof

end
-- ==== Proof.Blocks.lean ====
module

public import proofs.«01_k».proof.Proof.Column

@[expose] public section

/-! # The blocks' operations as stages

Over the extended reals a change of format changes nothing, so each operation the kernel does on its block is a
stage, or a run of stages, of the column's sort. -/

noncomputable section

namespace Cert.Proof

open Cert.KernelIdeal Cert.KernelIdeal.Gen
open Idealize.ShloMosaic Idealize.ShloMosaic.ValueIdx Idealize.ShloMosaic.SortNet

/-! ## The direction of a group of rows -/

/-- The direction of one group, from its first row. -/
def maskW (x m : BitVec 32) : BitVec 1 := evenW (fdivW x m)

theorem rowV_apply {b : ℕ} (w : BitVec 32) (h : MaskOk b) (g : Fin b) :
    rowV b w h (ix3 g (0 : Fin 1) (0 : Fin 1)) = Scalar.muli (BitVec.ofNat 32 g.val) w := by
  show IntOp.muli (iota .tc (S3 b) 32 [0] h.io (ix3 g (0 : Fin 1) (0 : Fin 1))) w = _
  simp only [iota, List.foldl_cons, List.foldl_nil, Nat.zero_mul, Nat.zero_add]
  rfl

theorem maskV_apply {b : ℕ} (w m : BitVec 32) (h : MaskOk b) (g : Fin b) :
    maskV b w m h (ix3 g (0 : Fin 1) (0 : Fin 1)) = maskW (Scalar.muli (BitVec.ofNat 32 g.val) w) m := by
  rw [← rowV_apply w h g]
  unfold maskV
  generalize rowV b w h = x
  rfl

set_option maxRecDepth 100000 in
theorem maskW_row : ∀ x < 256, ∀ l < 8, maskW (BitVec.ofNat 32 x) (BitVec.ofNat 32 (2 ^ l)) = BitVec.ofBool !(x.testBit l) := by
  decide +kernel

theorem maskV_row {b d s l : ℕ} (h : MaskOk b) (hb : b * (2 * d) = 256) (hd : d = 2 ^ s) (hl : s < l) (hl8 : l < 8) (c : Dev nD)
    (r : Fin 256) (g : Fin b) (hg : g.val = r.val / (2 * d)) :
    maskV b (BitVec.ofNat 32 (2 * d)) (BitVec.ofNat 32 (2 ^ l)) h (ix3 g (0 : Fin 1) (0 : Fin 1)) = BitVec.ofBool !((rowOf c r).val.testBit l) := by
  rw [maskV_apply]
  have hm : Scalar.muli (BitVec.ofNat 32 g.val) (BitVec.ofNat 32 (2 * d)) = BitVec.ofNat 32 (g.val * (2 * d)) := by
    show BitVec.ofNat 32 g.val * BitVec.ofNat 32 (2 * d) = _
    rw [← BitVec.ofNat_mul]
  have hle : g.val * (2 * d) < 256 := by
    rw [hg]; exact lt_of_le_of_lt (Nat.div_mul_le_self _ _) r.isLt
  rw [hm, maskW_row _ hle l hl8, row_bit_lo c r hl8]
  have hdd : 2 * d = 2 ^ (s + 1) := by rw [hd, Nat.pow_succ, Nat.mul_comm]
  rw [hg, hdd, Nat.testBit_mul_two_pow, decide_eq_true (by omega : s + 1 ≤ l), Bool.true_and, Nat.testBit_div_two_pow]
  congr 4
  omega

/-! ## A block's own stages -/

variable {b d s : ℕ} (h : CxOk b d) (hs : s < 8) (hd : d = 2 ^ s) (hb : b * (2 * d) = 256)
include hs hd hb

/-- A compare-exchange of every block, the direction by the rows' groups. -/
theorem cxM_col (mh : MaskOk b) {l : ℕ} (hl : s < l) (hl8 : l < 8) (X : Dev nD → EB) (j : Fin 128) :
    col (fun c => cxM (F := Ideal) b d h (maskV b (BitVec.ofNat 32 (2 * d)) (BitVec.ofNat 32 (2 ^ l)) mh) (X c)) j = stg' l s (col X j) := by
  refine local_stage hs hl X _ j fun c r => ?_
  have hlt : r.val / (2 * d) < b := Nat.div_lt_of_lt_mul (by rw [Nat.mul_comm, hb]; exact r.isLt)
  have hd0 : 0 < 2 * d := by rw [hd]; have := Nat.two_pow_pos s; omega
  refine (cxM_read h s hs hd hb _ (fun g : Fin b => (g.val * (2 * d)).testBit l) (fun g => ?_) (X c) r j ⟨r.val / (2 * d), hlt⟩ rfl).trans ?_
  · have hr : g.val * (2 * d) < 256 := by rw [← hb]; exact Nat.mul_lt_mul_of_pos_right g.isLt hd0
    rw [maskV_row mh hb hd hl hl8 c ⟨g.val * (2 * d), hr⟩ g (by rw [Nat.mul_div_cancel _ hd0]), row_bit_lo c _ hl8]
  · have e := maskV_row mh hb hd hl hl8 c r ⟨r.val / (2 * d), hlt⟩ rfl
    have hr : r.val / (2 * d) * (2 * d) < 256 := lt_of_le_of_lt (Nat.div_mul_le_self _ _) r.isLt
    rw [maskV_row mh hb hd hl hl8 c ⟨r.val / (2 * d) * (2 * d), hr⟩ _ (by rw [Nat.mul_div_cancel _ hd0]), row_bit_lo c _ hl8] at e
    have e' : ((r.val / (2 * d) * (2 * d)).testBit l) = (rowOf c r).val.testBit l := by
      generalize (r.val / (2 * d) * (2 * d)).testBit l = p at e ⊢
      generalize (rowOf c r).val.testBit l = q at e ⊢
      revert e; revert p q; decide
    rw [← e']

/-- A compare-exchange of every block, the direction by the device's number. -/
theorem cxS_col {l : ℕ} (asc : Dev nD → BitVec 1) (ha : ∀ c : Dev nD, asc c = BitVec.ofBool !(c.val.testBit l)) (X : Dev nD → EB) (j : Fin 128) :
    col (fun c => cxS (F := Ideal) b d h (asc c) (X c)) j = stg' (8 + l) s (col X j) := by
  refine local_stage hs (by omega) X _ j fun c r => ?_
  rw [ha, row_bit_hi]
  exact cxS_read h s hs hd hb _ (X c) r j

omit hs hd hb

set_option maxRecDepth 10000 in
/-- A merge of every block is the last eight stages of a level. -/
theorem mergeF_col {l : ℕ} (asc : Dev nD → BitVec 1) (ha : ∀ c : Dev nD, asc c = BitVec.ofBool !(c.val.testBit l)) (X : Dev nD → EB) (j : Fin 128) :
    col (fun c => mergeF (F := Ideal) (asc c) (X c)) j = run (8 + l) 8 (col X j) := by
  simp only [run]
  unfold mergeF
  refine (cxS_col cx128 (s := 0) (by decide) rfl rfl asc ha _ j).trans (congrArg (stg' (8 + l) 0) ?_)
  refine (cxS_col cx64 (s := 1) (by decide) rfl rfl asc ha _ j).trans (congrArg (stg' (8 + l) 1) ?_)
  refine (cxS_col cx32 (s := 2) (by decide) rfl rfl asc ha _ j).trans (congrArg (stg' (8 + l) 2) ?_)
  refine (cxS_col cx16 (s := 3) (by decide) rfl rfl asc ha _ j).trans (congrArg (stg' (8 + l) 3) ?_)
  refine (cxS_col cx8 (s := 4) (by decide) rfl rfl asc ha _ j).trans (congrArg (stg' (8 + l) 4) ?_)
  refine (cxS_col cx4 (s := 5) (by decide) rfl rfl asc ha _ j).trans (congrArg (stg' (8 + l) 5) ?_)
  refine (cxS_col cx2 (s := 6) (by decide) rfl rfl asc ha _ j).trans (congrArg (stg' (8 + l) 6) ?_)
  exact cxS_col cx1 (s := 7) (by decide) rfl rfl asc ha X j

section masked

variable {j : Fin 128} {X : Dev nD → EB} {l : ℕ} {m : BitVec 32} {v : Fin (2 ^ 13) → EReal} (hm : m = BitVec.ofNat 32 (2 ^ l)) (hl8 : l < 8)
include hm hl8

theorem m128_step (hl : 0 < l) (hX : col X j = v) : col (fun c => m128 (F := Ideal) m (X c)) j = stg' l 0 v := by
  subst hm hX; exact cxM_col cx128 (by decide) rfl rfl mk128 hl hl8 X j
theorem m64_step (hl : 1 < l) (hX : col X j = v) : col (fun c => m64 (F := Ideal) m (X c)) j = stg' l 1 v := by
  subst hm hX; exact cxM_col cx64 (by decide) rfl rfl mk64 hl hl8 X j
theorem m32_step (hl : 2 < l) (hX : col X j = v) : col (fun c => m32 (F := Ideal) m (X c)) j = stg' l 2 v := by
  subst hm hX; exact cxM_col cx32 (by decide) rfl rfl mk32 hl hl8 X j
theorem m16_step (hl : 3 < l) (hX : col X j = v) : col (fun c => m16 (F := Ideal) m (X c)) j = stg' l 3 v := by
  subst hm hX; exact cxM_col cx16 (by decide) rfl rfl mk16 hl hl8 X j
theorem m8_step (hl : 4 < l) (hX : col X j = v) : col (fun c => m8 (F := Ideal) m (X c)) j = stg' l 4 v := by
  subst hm hX; exact cxM_col cx8 (by decide) rfl rfl mk8 hl hl8 X j
theorem m4_step (hl : 5 < l) (hX : col X j = v) : col (fun c => m4 (F := Ideal) m (X c)) j = stg' l 5 v := by
  subst hm hX; exact cxM_col cx4 (by decide) rfl rfl mk4 hl hl8 X j
theorem m2_step (hl : 6 < l) (hX : col X j = v) : col (fun c => m2 (F := Ideal) m (X c)) j = stg' l 6 v := by
  subst hm hX; exact cxM_col cx2 (by decide) rfl rfl mk2 hl hl8 X j

end masked

attribute [local irreducible] m128 m64 m32 m16 m8 m4 m2 stg'

/-- The steps inside a block are the first seven levels. -/
theorem runsF_col (X : Dev nD → EB) (j : Fin 128) : col (fun c => runsF (F := Ideal) (X c)) j = levs 7 (col X j) := by
  simp only [runsF, levs, run]
  repeat first
    | refine m128_step (by rfl) (by decide) (by decide) ?_
    | refine m64_step (by rfl) (by decide) (by decide) ?_
    | refine m32_step (by rfl) (by decide) (by decide) ?_
    | refine m16_step (by rfl) (by decide) (by decide) ?_
    | refine m8_step (by rfl) (by decide) (by decide) ?_
    | refine m4_step (by rfl) (by decide) (by decide) ?_
    | refine m2_step (by rfl) (by decide) (by decide) ?_
  rfl

end Cert.Proof

end
-- ==== Proof.Sorted.lean ====
module

public import proofs.«01_k».proof.Proof.Blocks
public import proofs.«01_k».proof.Proof.Protocol

@[expose] public section

/-! # The rounds sort the column -/

noncomputable section

namespace Cert.Proof

open Cert.KernelIdeal Cert.KernelIdeal.Gen
open Idealize.ShloMosaic Idealize.ShloMosaic.ValueIdx Idealize.ShloMosaic.SortNet
open Idealize.ShloMosaic.TcCoe

variable (X : Dev nD → EB) (j : Fin 128)

/-! ## Storage -/

theorem outB_eq (v : EB) : outB (F := Ideal) v = v := by
  unfold outB; rw [shapeCast_self]; rfl

theorem mergeR_col (l : ℕ) (k : BitVec 32) (ha : ∀ c : Dev nD, ascW c k = BitVec.ofBool !(c.val.testBit l)) :
    col (mergeR (F := Ideal) k X) j = run (8 + l) 8 (col X j) := by
  refine Eq.trans ?_ (mergeF_col (fun c => ascW c k) ha X j)
  refine congrArg (fun Y => col Y j) (funext fun c => ?_)
  unfold mergeR mergeB
  rw [outB_eq]
  rfl

theorem initB_col : col (fun c => initB (F := Ideal) (devW c) (X c)) j = levs 8 (col X j) := by
  have ha : ∀ c : Dev nD, evenW (devW c) = BitVec.ofBool !(c.val.testBit 0) := by decide +kernel
  show _ = run (8 + 0) 8 (levs 7 (col X j))
  rw [← runsF_col]
  refine Eq.trans ?_ (mergeF_col (l := 0) (fun c => evenW (devW c)) ha _ j)
  refine congrArg (fun Y => col Y j) (funext fun c => ?_)
  unfold initB
  rw [outB_eq, shapeCast_self]
  rfl

/-! ## The exchanges -/

/-- The kept block, row by row. -/
theorem mixR1_read (i : Fin 9) (w k : BitVec 32) (c : Dev nD) (t : Bool × Bool) (hk : keepW (devW c) w (ascW c k) = BitVec.ofBool (t.1 == t.2))
    (r : Fin 256) : mixR1 (F := Ideal) i w k X c (ix2 r j) = keepE t.1 t.2 (X c (ix2 r j)) (X (pr i c) (ix2 r j)) := by
  unfold mixR1 mixU1
  rw [shapeCast_self, hk]
  obtain ⟨p, q⟩ := t
  cases p <;> cases q <;> rfl

/-- An exchange with one device is a stage. -/
theorem mixR1_col (i : Fin 9) (a b : ℕ) (w k : BitVec 32) (ha : a < 5) (hl : a < b)
    (hp : ∀ c : Dev nD, (pr i c).val = c.val ^^^ 2 ^ a)
    (hk : ∀ c : Dev nD, keepW (devW c) w (ascW c k) = BitVec.ofBool (c.val.testBit a == c.val.testBit b)) :
    col (mixR1 (F := Ideal) i w k X) j = stg' (8 + b) (8 + a) (col X j) :=
  dev_stage ha hl X _ j (pr i) hp fun c r => mixR1_read X j i w k c (_, _) (hk c) r

/-- An exchange with three devices is one with the farther, then one with the nearer. -/
theorem mixR3_eq (i i' i'' : Fin 9) (w v k : BitVec 32) (hp : ∀ c, pr i' (pr i c) = pr i'' c)
    (hk : ∀ c : Dev nD, keepW (devW (pr i c)) v (ascW (pr i c) k) = keepW (devW c) v (ascW c k)) :
    mixR3 (F := Ideal) i i' i'' w v k X = mixR1 i w k (mixR1 i' v k X) := by
  funext c
  unfold mixR3 mixR1 mixU3 mixU1
  simp only [shapeCast_self]
  rw [hk, hp]

theorem mixR3_col (i i' i'' : Fin 9) (a a' b : ℕ) (w v k : BitVec 32) (ha : a < 5) (hl : a < b) (ha' : a' < 5) (hl' : a' < b)
    (hpp : ∀ c, pr i' (pr i c) = pr i'' c)
    (hkk : ∀ c : Dev nD, keepW (devW (pr i c)) v (ascW (pr i c) k) = keepW (devW c) v (ascW c k))
    (hp : ∀ c : Dev nD, (pr i c).val = c.val ^^^ 2 ^ a) (hp' : ∀ c : Dev nD, (pr i' c).val = c.val ^^^ 2 ^ a')
    (hk : ∀ c : Dev nD, keepW (devW c) w (ascW c k) = BitVec.ofBool (c.val.testBit a == c.val.testBit b))
    (hk' : ∀ c : Dev nD, keepW (devW c) v (ascW c k) = BitVec.ofBool (c.val.testBit a' == c.val.testBit b)) :
    col (mixR3 (F := Ideal) i i' i'' w v k X) j = stg' (8 + b) (8 + a) (stg' (8 + b) (8 + a') (col X j)) := by
  rw [mixR3_eq X i i' i'' w v k hpp hkk, mixR1_col _ j i a b w k ha hl hp hk, mixR1_col _ j i' a' b v k ha' hl' hp' hk']

/-! ## The levels across devices -/

theorem level9 : col (stepB (F := Ideal) 0 X) j = run 9 9 (col X j) := by
  refine (mergeR_col _ j 1 2#32 (by decide +kernel)).trans ?_
  rw [mixR1_col X j 0 0 1 1#32 2#32 (by decide) (by decide) (by decide +kernel) (by decide +kernel)]
  rfl

theorem level10 : col (stepB (F := Ideal) 1 X) j = run 10 10 (col X j) := by
  refine (mergeR_col _ j 2 4#32 (by decide +kernel)).trans ?_
  rw [mixR3_col X j 0 1 2 0 1 2 1#32 2#32 4#32 (by decide) (by decide) (by decide) (by decide) (by decide +kernel) (by decide +kernel)
    (by decide +kernel) (by decide +kernel) (by decide +kernel) (by decide +kernel)]
  rfl

theorem round2 : col (stepB (F := Ideal) 2 X) j = stg' 11 9 (stg' 11 10 (col X j)) :=
  mixR3_col X j 1 3 4 1 2 3 2#32 4#32 8#32 (by decide) (by decide) (by decide) (by decide)
    (by decide +kernel) (by decide +kernel) (by decide +kernel) (by decide +kernel) (by decide +kernel) (by decide +kernel)

theorem level11 : col (stepB (F := Ideal) 3 (stepB 2 X)) j = run 11 11 (col X j) := by
  refine (mergeR_col _ j 3 8#32 (by decide +kernel)).trans ?_
  rw [mixR1_col _ j 0 0 3 1#32 8#32 (by decide) (by decide) (by decide +kernel) (by decide +kernel), round2]
  rfl

theorem round4 : col (stepB (F := Ideal) 4 X) j = stg' 12 10 (stg' 12 11 (col X j)) :=
  mixR3_col X j 3 5 6 2 3 4 4#32 8#32 16#32 (by decide) (by decide) (by decide) (by decide)
    (by decide +kernel) (by decide +kernel) (by decide +kernel) (by decide +kernel) (by decide +kernel) (by decide +kernel)

theorem level12 : col (stepB (F := Ideal) 5 (stepB 4 X)) j = run 12 12 (col X j) := by
  refine (mergeR_col _ j 4 16#32 (by decide +kernel)).trans ?_
  rw [mixR3_col _ j 0 1 2 0 1 4 1#32 2#32 16#32 (by decide) (by decide) (by decide) (by decide)
    (by decide +kernel) (by decide +kernel) (by decide +kernel) (by decide +kernel) (by decide +kernel) (by decide +kernel), round4]
  rfl

theorem round6 : col (stepB (F := Ideal) 6 X) j = stg' 13 11 (stg' 13 12 (col X j)) :=
  mixR3_col X j 5 7 8 3 4 5 8#32 16#32 32#32 (by decide) (by decide) (by decide) (by decide)
    (by decide +kernel) (by decide +kernel) (by decide +kernel) (by decide +kernel) (by decide +kernel) (by decide +kernel)

theorem round7 : col (stepB (F := Ideal) 7 X) j = stg' 13 9 (stg' 13 10 (col X j)) :=
  mixR3_col X j 1 3 4 1 2 5 2#32 4#32 32#32 (by decide) (by decide) (by decide) (by decide)
    (by decide +kernel) (by decide +kernel) (by decide +kernel) (by decide +kernel) (by decide +kernel) (by decide +kernel)

theorem level13 : col (stepB (F := Ideal) 8 (stepB 7 (stepB 6 X))) j = run 13 13 (col X j) := by
  refine (mergeR_col _ j 5 32#32 (by decide +kernel)).trans ?_
  rw [mixR1_col _ j 0 0 5 1#32 32#32 (by decide) (by decide) (by decide +kernel) (by decide +kernel), round7, round6]
  rfl

variable (m : (ℓ : Loc nD τ sig) → Buf (Elt Ideal) ℓ) (ρ : Dev nD → PrngReg)

/-- The last blocks are the column's bitonic sort. -/
theorem B9_col : col (B (F := Ideal) m ρ 9) j = levs 13 (col (xstg m ρ) j) := by
  show col (stepB 8 (stepB 7 (stepB 6 (stepB 5 (stepB 4 (stepB 3 (stepB 2 (stepB 1 (stepB 0 (B m ρ 0)))))))))) j = _
  rw [level13, level12, level11, level10, level9]
  show run 13 13 (run 12 12 (run 11 11 (run 10 10 (run 9 9 (col (fun c => initB (devW c) (xstg m ρ c)) j))))) = _
  rw [initB_col]
  rfl

end Cert.Proof

end
-- ==== Proof.Host.lean ====
module

public import proofs.«01_k».proof.Proof.Gen.ReferenceIdeal
public import proofs.«01_k».proof.Proof.Column
public import Idealize.ShloMosaic.Lib.SortFacts
public import Mathlib.Order.Interval.Finset.Fin

@[expose] public section

/-! # The reference's sort

Over the extended reals the reference's comparator is the order itself, so each column of its result is the one
ascending rearrangement of the column: what the bitonic sort gives too. -/

noncomputable section

namespace Cert.Proof

open Idealize.ShloMosaic Idealize.ShloMosaic.ValueIdx Idealize.ShloMosaic.SortNet
open Cert.ReferenceIdeal (S8192x128 comparator_f32_d0)

theorem comparator_eq (l r : EReal) : comparator_f32_d0 (F := Ideal) l r = BitVec.ofBool (decide (l < r)) := by
  have h1 : ∀ (x z : EReal), Scalar.select (FloatOps.cmpf (F := Ideal) (φ := .f32) .oeq x z) z x = x := by
    intro x z
    by_cases h : x = z
    · subst h; unfold Scalar.select; split <;> rfl
    · have : FloatOps.cmpf (F := Ideal) (φ := .f32) .oeq x z = 0#1 := by
        show BitVec.ofBool (decide (x = z)) = 0#1
        rw [decide_eq_false h]; rfl
      rw [this]; rfl
  have h2 : ∀ (x y z : EReal), Scalar.select (FloatOps.cmpf (F := Ideal) (φ := .f32) .une x x) y z = z := by
    intro x y z
    have : FloatOps.cmpf (F := Ideal) (φ := .f32) .une x x = 0#1 := by
      show BitVec.ofBool (decide (x ≠ x)) = 0#1
      rw [decide_eq_false (fun h => h rfl)]; rfl
    rw [this]; rfl
  unfold comparator_f32_d0
  simp only [h1, h2]
  rfl

/-- The sorting permutation's column ascends. -/
theorem sortedFrom_mono {n : ℕ} (v : Fin n → EReal) :
    Monotone fun i => v (sortedFrom (fun k k' => BitVec.ofBool (decide (v k < v k')) == 1#1) i) := by
  have hB : ∀ a b : Fin n, (BitVec.ofBool (decide (v a < v b)) == 1#1) = decide (v a < v b) := by
    intro a b; cases decide (v a < v b) <;> rfl
  simp only [hB]
  intro i j hij
  rcases eq_or_lt_of_le hij with rfl | hlt
  · exact le_refl _
  · have h := sortedFrom_noInversion (fun k k' => decide (v k < v k')) (fun k k' => decide (v k < v k'))
      (fun a b h => decide_eq_false (not_lt.2 (le_of_lt (of_decide_eq_true h)))) (fun _ _ h => h)
      (fun a b c h h' => decide_eq_false (not_lt.2 (le_trans (not_lt.1 (of_decide_eq_false h')) (not_lt.1 (of_decide_eq_false h))))) i j hlt
    exact not_lt.1 (of_decide_eq_false h)

/-- Of two ascending arrangements of one column, neither exceeds the other anywhere: if the second were smaller at
`i`, the places up to `i` would all have to come from places below `i`, which are too few. -/
theorem ascending_le {n : ℕ} (g : Fin n → EReal) (π : Equiv.Perm (Fin n)) (hg : Monotone g) (hh : Monotone (g ∘ π)) (i : Fin n) :
    g i ≤ g (π i) := by
  by_contra hc
  have hlt : ∀ k ∈ Finset.Iic i, π k ∈ Finset.Iio i := by
    intro k hk
    rw [Finset.mem_Iio]
    by_contra hk'
    exact hc (le_trans (hg (not_lt.1 hk')) (hh (Finset.mem_Iic.1 hk)))
  have hcard := Finset.card_le_card_of_injOn π hlt π.injective.injOn
  rw [Fin.card_Iic, Fin.card_Iio] at hcard
  omega

theorem ascending_unique {n : ℕ} (f : Fin n → EReal) (σ τ : Equiv.Perm (Fin n)) (hσ : Monotone (f ∘ σ)) (hτ : Monotone (f ∘ τ)) :
    f ∘ σ = f ∘ τ := by
  have key : ∀ σ τ : Equiv.Perm (Fin n), Monotone (f ∘ σ) → Monotone (f ∘ τ) → ∀ i, f (σ i) ≤ f (τ i) := by
    intro σ τ hσ hτ i
    have e : (f ∘ σ) ∘ (τ.trans σ.symm) = f ∘ τ := by
      funext k; simp
    have h := ascending_le (f ∘ σ) (τ.trans σ.symm) hσ (by rw [e]; exact hτ) i
    have hi := congrFun e i
    exact le_trans h (le_of_eq hi)
  funext i
  exact le_antisymm (key σ τ hσ hτ i) (key τ σ hτ hσ i)

/-- The sorting permutation's column is any ascending rearrangement of the column. -/
theorem sortedFrom_eq {n : ℕ} (v w : Fin n → EReal) (hw : Monotone w) (hp : ∃ σ : Equiv.Perm (Fin n), w = v ∘ σ) (i : Fin n) :
    v (sortedFrom (fun k k' => BitVec.ofBool (decide (v k < v k')) == 1#1) i) = w i := by
  obtain ⟨σ, rfl⟩ := hp
  exact congrFun (ascending_unique v (Equiv.ofBijective _ ⟨sortedFrom_injective _, sortedFrom_surjective _⟩) σ
    (sortedFrom_mono v) hw) i

/-- An index moved along the rows. -/
theorem along_rows (i k : Fin 8192) (j : Fin 128) (h : 0 < S8192x128.rank) :
    (ix2 i j : S8192x128.Idx).along ⟨0, h⟩ k = ix2 k j := by
  funext a
  fin_cases a
  · exact Function.update_self _ _ _
  · exact Function.update_of_ne (fun e : (1 : Fin 2) = 0 => absurd e (by decide)) _ _

/-- The reference's sort at a row and a column. -/
theorem sort_row (x : S8192x128.Idx → EReal) (i : Fin 8192) (j : Fin 128) :
    Host.sort S8192x128 0 (comparator_f32_d0 (F := Ideal)) x (ix2 i j)
      = x (ix2 (sortedFrom (fun k k' : Fin 8192 => BitVec.ofBool (decide (x (ix2 k j) < x (ix2 k' j))) == 1#1) i) j) := by
  have h : 0 < S8192x128.rank := by decide
  have hb : (fun k k' : Fin 8192 => comparator_f32_d0 (F := Ideal) (x ((ix2 i j : S8192x128.Idx).along ⟨0, h⟩ k))
        (x ((ix2 i j : S8192x128.Idx).along ⟨0, h⟩ k')) == 1#1)
      = fun k k' => BitVec.ofBool (decide (x (ix2 k j) < x (ix2 k' j))) == 1#1 := by
    funext k k'
    rw [comparator_eq, along_rows i k j h, along_rows i k' j h]
  unfold Host.sort
  rw [dif_pos h, ← hb]
  exact congrArg x (along_rows i _ j h)

/-- A column of the reference's result is the column's bitonic sort. -/
theorem ref_col (x : S8192x128.Idx → EReal) (i : Fin (2 ^ 13)) (j : Fin 128) :
    Host.sort S8192x128 0 (comparator_f32_d0 (F := Ideal)) x (ix2 (n0 := 8192) i j) = levs 13 (fun k => x (ix2 (n0 := 8192) k j)) i :=
  (sort_row x i j).trans (sortedFrom_eq (n := 2 ^ 13) (fun k => x (ix2 (n0 := 8192) k j)) _ (levs_sorted _) (levs_perm _) i)

end Cert.Proof

end
-- ==== Proof.Algebraic.lean ====
module

public import proofs.«01_k».proof.Proof.Run
public import proofs.«01_k».proof.Proof.Sorted
public import proofs.«01_k».proof.Proof.Host
public import Idealize.ShloMosaic.Lib.Layout
public import Idealize.ShloMosaic.Lib.Pipeline.ValueKit.Geometry

@[expose] public section

/-! # The kernel's result is the reference's

Each device's result is its block of rows of the sorted array. -/

noncomputable section

namespace Cert.Proof

open Cert.KernelIdeal Cert.KernelIdeal.Gen
open Idealize.ShloMosaic Idealize.ShloMosaic.ValueIdx Idealize.ShloMosaic.SortNet
open Idealize.ShloMosaic.TcCoe
open Cert.ReferenceIdeal (S8192x128 comparator_f32_d0)

section any

variable {F : FTy → Type} [FloatOps F]
variable (m : (ℓ : Loc nD τ sig) → Buf (Elt F) ℓ) (ρ : Dev nD → PrngReg)

/-- The result array holds what the body leaves. -/
theorem finalA_out (c : Dev nD) : finalA m ρ c (1 : Fin 2) = outAt m ρ c :=
  (dats m ρ 0 c).arrAt_eq_of_after_last (1 : Fin 2) t₀ (by decide +kernel) _ fun j => rfl

/-- The staged input is the argument. -/
theorem xstg_eq (c : Dev nD) : xstg m ρ c = m ((c : Thread nD τ).loc main_arg0) := by
  have h : ∀ i : S256x128.Idx, (win0_0.blk (0 : Fin 1)).view.emb i = i := by
    intro i
    funext a
    apply Fin.ext
    fin_cases a <;> simp <;> rfl
  funext i
  exact congrArg (m ((c : Thread nD τ).loc main_arg0)) (h i)

end any

/-- Row `r` of device `c`'s block, in the whole array. -/
theorem block_row (x : S8192x128.Idx → EReal) (c : Dev nD) (h : Layout.Tiles S256x128 S8192x128 0 32) (r : Fin 256) (j : Fin 128) :
    Layout.block S256x128 S8192x128 0 32 c x h (ix2 r j) = x (ix2 (n0 := 8192) (rowOf c r) j) := by
  refine congrArg x (funext fun a => Fin.ext ?_)
  fin_cases a
  · show c.val * 256 + r.val = 2 ^ 8 * c.val + r.val
    omega
  · rfl

section ideal

variable (m : (ℓ : Loc nD τ sig) → Buf (Elt Ideal) ℓ) (ρ : Dev nD → PrngReg) (x : S8192x128.Idx → EReal)

/-- From the blocks of an array, the blocks of its sort. -/
theorem outAt_eq (h : Layout.Tiles S256x128 S8192x128 0 32)
    (hx : ∀ c : Dev nD, m ((c : Thread nD τ).loc main_arg0) = Layout.block S256x128 S8192x128 0 32 c x h) (c : Dev nD) :
    outAt m ρ c = Layout.block S256x128 S8192x128 0 32 c
      (Host.sort S8192x128 0 (comparator_f32_d0 (F := Ideal)) x) h := by
  have hc : ∀ j, col (xstg m ρ) j = fun k => x (ix2 (n0 := 8192) k j) := fun j => col_ext fun c r => by
    rw [xstg_eq, hx]; exact block_row x c h r j
  have key : ∀ (r : Fin 256) (j : Fin 128), outAt m ρ c (ix2 r j) = Layout.block S256x128 S8192x128 0 32 c
      (Host.sort S8192x128 0 (comparator_f32_d0 (F := Ideal)) x) h (ix2 r j) := fun r j =>
    ((col_row (B (F := Ideal) m ρ 9) j c r).symm.trans ((congrFun (B9_col j m ρ) (rowOf c r)).trans
      ((congrArg (fun v => levs 13 v (rowOf c r)) (hc j)).trans (ref_col x (rowOf c r) j).symm))).trans (block_row _ c h r j).symm
  funext i
  exact (congrArg (outAt m ρ c) (eq_ix2 i)).trans ((key (i 0) (i 1)).trans (congrArg _ (eq_ix2 i).symm))

end ideal

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Transport
public import proofs.«01_k».proof.Proof.Algebraic
public import Idealize.ShloMosaic.Lib.Quiescent

@[expose] public section

noncomputable section

/-! # The certificate: the distributed bitonic sort against a column sort -/

namespace Cert.Proof

open Idealize.ShloMosaic Idealize.SL.Sem

theorem frame_k : Cert.quiescent_Kernel := fun m ρ _ => transport m ρ (run_frame m ρ)

theorem frame_ki : Cert.quiescent_KernelIdeal := fun m ρ _ => run_frame m ρ

theorem frame_ri : Cert.quiescent_ReferenceIdeal := fun m ρ _ =>
  (θ_run _ _ _).mono (fun r h => ⟨fun c => (h c).2, sem_eq_zero_of_no_sems rfl r.2⟩) (Cert.ReferenceIdeal.Value.run m ρ)

/-- The reference's result is its argument's columns sorted; each device of the kernel ends with its rows of that. -/
theorem algebraic : Cert.algebraic_KernelIdeal_ReferenceIdeal := fun m g m' g' _ hx =>
  ⟨Host.sort Cert.ReferenceIdeal.S8192x128 0 (Cert.ReferenceIdeal.comparator_f32_d0 (F := Ideal))
      (extf (F := Ideal) .f32 (m' (((0 : Dev Cert.ReferenceIdeal.nD).tc : Thread Cert.ReferenceIdeal.nD Cert.ReferenceIdeal.τ).loc Cert.ReferenceIdeal.main_arg0))
        Cert.ReferenceIdeal.Gen.bitsLt_bf16_f32),
    (θ_run _ _ _).mono (fun _ h c => ⟨(h.1 c (1 : Fin 2)).trans ((finalA_out m g c).trans (outAt_eq m g _ _ hx c)),
      (h.1 c (0 : Fin 2)).trans (finalA_x m g c)⟩) (run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_k, frame_ki, frame_ri, trivial, algebraic⟩

end Cert.Proof

end
